-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables_in_range [hPre_tables_in_range : Cert.Pre_tables_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Mixing (m : (ℓ : Loc Cert.Mixing.nD Cert.Mixing.τ Cert.Mixing.sig) → Buf (Elt Bits) ℓ) : Prop :=
  True

def Pre_MixingIdeal (m : (ℓ : Loc Cert.MixingIdeal.nD Cert.MixingIdeal.τ Cert.MixingIdeal.sig) → Buf (Elt Ideal) ℓ) : Prop :=
  True

def Pre_MixingReferenceIdeal (m : (ℓ : Loc Cert.MixingReferenceIdeal.nD Cert.MixingReferenceIdeal.τ Cert.MixingReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tables_in_range [hExpertsReferenceIdeal : Cert.ExpertsReferenceIdeal.Facts] [hPre_tables_in_range : Cert.Pre_tables_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Mixing [hMixing : Cert.Mixing.Facts] : Prop :=
  ∀ (m : (ℓ : Loc Cert.Mixing.nD Cert.Mixing.τ Cert.Mixing.sig) → Buf (Elt Bits) ℓ) (g : Dev Cert.Mixing.nD → PrngReg), Pre_Mixing m →
    θ_run (Cert.Mixing.defs (F := Bits)) (onTc (τ := Cert.Mixing.τ) (Cert.Mixing.main (F := Bits))) ⟨m, fun _ => 0, g⟩ (fun r => (∀ c : Dev Cert.Mixing.nD,
      r.2.mem ((c.tc : Thread Cert.Mixing.nD Cert.Mixing.τ).loc Cert.Mixing.main_arg0) = m ((c.tc : Thread Cert.Mixing.nD Cert.Mixing.τ).loc Cert.Mixing.main_arg0)
      ∧ r.2.mem ((c.tc : Thread Cert.Mixing.nD Cert.Mixing.τ).loc Cert.Mixing.main_arg1) = m ((c.tc : Thread Cert.Mixing.nD Cert.Mixing.τ).loc Cert.Mixing.main_arg1)
      ∧ r.2.mem ((c.tc : Thread Cert.Mixing.nD Cert.Mixing.τ).loc Cert.Mixing.main_arg2) = m ((c.tc : Thread Cert.Mixing.nD Cert.Mixing.τ).loc Cert.Mixing.main_arg2)
      ∧ r.2.mem ((c.tc : Thread Cert.Mixing.nD Cert.Mixing.τ).loc Cert.Mixing.main_arg3) = m ((c.tc : Thread Cert.Mixing.nD Cert.Mixing.τ).loc Cert.Mixing.main_arg3)
      ∧ r.2.mem ((c.tc : Thread Cert.Mixing.nD Cert.Mixing.τ).loc Cert.Mixing.main_arg4) = m ((c.tc : Thread Cert.Mixing.nD Cert.Mixing.τ).loc Cert.Mixing.main_arg4)
      ∧ r.2.mem ((c.tc : Thread Cert.Mixing.nD Cert.Mixing.τ).loc Cert.Mixing.main_arg5) = m ((c.tc : Thread Cert.Mixing.nD Cert.Mixing.τ).loc Cert.Mixing.main_arg5)
      ∧ r.2.mem ((c.tc : Thread Cert.Mixing.nD Cert.Mixing.τ).loc Cert.Mixing.main_arg6) = m ((c.tc : Thread Cert.Mixing.nD Cert.Mixing.τ).loc Cert.Mixing.main_arg6)
      ∧ r.2.mem ((c.tc : Thread Cert.Mixing.nD Cert.Mixing.τ).loc Cert.Mixing.main_arg7) = m ((c.tc : Thread Cert.Mixing.nD Cert.Mixing.τ).loc Cert.Mixing.main_arg7)
      ∧ r.2.mem ((c.tc : Thread Cert.Mixing.nD Cert.Mixing.τ).loc Cert.Mixing.main_arg8) = m ((c.tc : Thread Cert.Mixing.nD Cert.Mixing.τ).loc Cert.Mixing.main_arg8)
      ∧ r.2.mem ((c.tc : Thread Cert.Mixing.nD Cert.Mixing.τ).loc Cert.Mixing.main_arg9) = m ((c.tc : Thread Cert.Mixing.nD Cert.Mixing.τ).loc Cert.Mixing.main_arg9)
      ∧ r.2.mem ((c.tc : Thread Cert.Mixing.nD Cert.Mixing.τ).loc Cert.Mixing.main_arg10) = m ((c.tc : Thread Cert.Mixing.nD Cert.Mixing.τ).loc Cert.Mixing.main_arg10)
      ∧ r.2.mem ((c.tc : Thread Cert.Mixing.nD Cert.Mixing.τ).loc Cert.Mixing.main_arg11) = m ((c.tc : Thread Cert.Mixing.nD Cert.Mixing.τ).loc Cert.Mixing.main_arg11)
      ∧ r.2.mem ((c.tc : Thread Cert.Mixing.nD Cert.Mixing.τ).loc Cert.Mixing.main_arg12) = m ((c.tc : Thread Cert.Mixing.nD Cert.Mixing.τ).loc Cert.Mixing.main_arg12))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
      ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
      ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
      ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12))
      ∧ r.2.sem = fun _ => 0)

def quiescent_MixingReferenceIdeal [hMixingReferenceIdeal : Cert.MixingReferenceIdeal.Facts] : Prop :=
  ∀ (m : (ℓ : Loc Cert.MixingReferenceIdeal.nD Cert.MixingReferenceIdeal.τ Cert.MixingReferenceIdeal.sig) → Buf (Elt Ideal) ℓ) (g : Dev Cert.MixingReferenceIdeal.nD → PrngReg), Pre_MixingReferenceIdeal m →
    θ_run (Cert.MixingReferenceIdeal.defs (F := Ideal)) (onTc (τ := Cert.MixingReferenceIdeal.τ) (Cert.MixingReferenceIdeal.main (F := Ideal))) ⟨m, fun _ => 0, g⟩ (fun r => (∀ c : Dev Cert.MixingReferenceIdeal.nD,
      r.2.mem ((c.tc : Thread Cert.MixingReferenceIdeal.nD Cert.MixingReferenceIdeal.τ).loc Cert.MixingReferenceIdeal.main_arg0) = m ((c.tc : Thread Cert.MixingReferenceIdeal.nD Cert.MixingReferenceIdeal.τ).loc Cert.MixingReferenceIdeal.main_arg0)
      ∧ r.2.mem ((c.tc : Thread Cert.MixingReferenceIdeal.nD Cert.MixingReferenceIdeal.τ).loc Cert.MixingReferenceIdeal.main_arg1) = m ((c.tc : Thread Cert.MixingReferenceIdeal.nD Cert.MixingReferenceIdeal.τ).loc Cert.MixingReferenceIdeal.main_arg1)
      ∧ r.2.mem ((c.tc : Thread Cert.MixingReferenceIdeal.nD Cert.MixingReferenceIdeal.τ).loc Cert.MixingReferenceIdeal.main_arg2) = m ((c.tc : Thread Cert.MixingReferenceIdeal.nD Cert.MixingReferenceIdeal.τ).loc Cert.MixingReferenceIdeal.main_arg2)
      ∧ r.2.mem ((c.tc : Thread Cert.MixingReferenceIdeal.nD Cert.MixingReferenceIdeal.τ).loc Cert.MixingReferenceIdeal.main_arg3) = m ((c.tc : Thread Cert.MixingReferenceIdeal.nD Cert.MixingReferenceIdeal.τ).loc Cert.MixingReferenceIdeal.main_arg3)
      ∧ r.2.mem ((c.tc : Thread Cert.MixingReferenceIdeal.nD Cert.MixingReferenceIdeal.τ).loc Cert.MixingReferenceIdeal.main_arg4) = m ((c.tc : Thread Cert.MixingReferenceIdeal.nD Cert.MixingReferenceIdeal.τ).loc Cert.MixingReferenceIdeal.main_arg4)
      ∧ r.2.mem ((c.tc : Thread Cert.MixingReferenceIdeal.nD Cert.MixingReferenceIdeal.τ).loc Cert.MixingReferenceIdeal.main_arg5) = m ((c.tc : Thread Cert.MixingReferenceIdeal.nD Cert.MixingReferenceIdeal.τ).loc Cert.MixingReferenceIdeal.main_arg5)
      ∧ r.2.mem ((c.tc : Thread Cert.MixingReferenceIdeal.nD Cert.MixingReferenceIdeal.τ).loc Cert.MixingReferenceIdeal.main_arg6) = m ((c.tc : Thread Cert.MixingReferenceIdeal.nD Cert.MixingReferenceIdeal.τ).loc Cert.MixingReferenceIdeal.main_arg6)
      ∧ r.2.mem ((c.tc : Thread Cert.MixingReferenceIdeal.nD Cert.MixingReferenceIdeal.τ).loc Cert.MixingReferenceIdeal.main_arg7) = m ((c.tc : Thread Cert.MixingReferenceIdeal.nD Cert.MixingReferenceIdeal.τ).loc Cert.MixingReferenceIdeal.main_arg7)
      ∧ r.2.mem ((c.tc : Thread Cert.MixingReferenceIdeal.nD Cert.MixingReferenceIdeal.τ).loc Cert.MixingReferenceIdeal.main_arg8) = m ((c.tc : Thread Cert.MixingReferenceIdeal.nD Cert.MixingReferenceIdeal.τ).loc Cert.MixingReferenceIdeal.main_arg8)
      ∧ r.2.mem ((c.tc : Thread Cert.MixingReferenceIdeal.nD Cert.MixingReferenceIdeal.τ).loc Cert.MixingReferenceIdeal.main_arg9) = m ((c.tc : Thread Cert.MixingReferenceIdeal.nD Cert.MixingReferenceIdeal.τ).loc Cert.MixingReferenceIdeal.main_arg9)
      ∧ r.2.mem ((c.tc : Thread Cert.MixingReferenceIdeal.nD Cert.MixingReferenceIdeal.τ).loc Cert.MixingReferenceIdeal.main_arg10) = m ((c.tc : Thread Cert.MixingReferenceIdeal.nD Cert.MixingReferenceIdeal.τ).loc Cert.MixingReferenceIdeal.main_arg10)
      ∧ r.2.mem ((c.tc : Thread Cert.MixingReferenceIdeal.nD Cert.MixingReferenceIdeal.τ).loc Cert.MixingReferenceIdeal.main_arg11) = m ((c.tc : Thread Cert.MixingReferenceIdeal.nD Cert.MixingReferenceIdeal.τ).loc Cert.MixingReferenceIdeal.main_arg11)
      ∧ r.2.mem ((c.tc : Thread Cert.MixingReferenceIdeal.nD Cert.MixingReferenceIdeal.τ).loc Cert.MixingReferenceIdeal.main_arg12) = m ((c.tc : Thread Cert.MixingReferenceIdeal.nD Cert.MixingReferenceIdeal.τ).loc Cert.MixingReferenceIdeal.main_arg12))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v36) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Mixing_MixingIdeal : Prop :=
  True

def algebraic_MixingIdeal_MixingReferenceIdeal [hMixingIdeal : Cert.MixingIdeal.Facts] [hMixingReferenceIdeal : Cert.MixingReferenceIdeal.Facts] : Prop :=
  ∀ (m : (ℓ : Loc Cert.MixingIdeal.nD Cert.MixingIdeal.τ Cert.MixingIdeal.sig) → Buf (Elt Ideal) ℓ) (g : Dev Cert.MixingIdeal.nD → PrngReg)
    (m' : (ℓ : Loc Cert.MixingReferenceIdeal.nD Cert.MixingReferenceIdeal.τ Cert.MixingReferenceIdeal.sig) → Buf (Elt Ideal) ℓ) (g' : Dev Cert.MixingReferenceIdeal.nD → PrngReg), Pre_MixingIdeal m →
    (∀ c : Dev Cert.MixingIdeal.nD,
      m' ((c.tc : Thread Cert.MixingReferenceIdeal.nD Cert.MixingReferenceIdeal.τ).loc Cert.MixingReferenceIdeal.main_arg0) = m ((c.tc : Thread Cert.MixingIdeal.nD Cert.MixingIdeal.τ).loc Cert.MixingIdeal.main_arg0)
      ∧ m' ((c.tc : Thread Cert.MixingReferenceIdeal.nD Cert.MixingReferenceIdeal.τ).loc Cert.MixingReferenceIdeal.main_arg1) = m ((c.tc : Thread Cert.MixingIdeal.nD Cert.MixingIdeal.τ).loc Cert.MixingIdeal.main_arg1)
      ∧ m' ((c.tc : Thread Cert.MixingReferenceIdeal.nD Cert.MixingReferenceIdeal.τ).loc Cert.MixingReferenceIdeal.main_arg2) = m ((c.tc : Thread Cert.MixingIdeal.nD Cert.MixingIdeal.τ).loc Cert.MixingIdeal.main_arg2)
      ∧ m' ((c.tc : Thread Cert.MixingReferenceIdeal.nD Cert.MixingReferenceIdeal.τ).loc Cert.MixingReferenceIdeal.main_arg3) = m ((c.tc : Thread Cert.MixingIdeal.nD Cert.MixingIdeal.τ).loc Cert.MixingIdeal.main_arg3)
      ∧ m' ((c.tc : Thread Cert.MixingReferenceIdeal.nD Cert.MixingReferenceIdeal.τ).loc Cert.MixingReferenceIdeal.main_arg4) = m ((c.tc : Thread Cert.MixingIdeal.nD Cert.MixingIdeal.τ).loc Cert.MixingIdeal.main_arg4)
      ∧ m' ((c.tc : Thread Cert.MixingReferenceIdeal.nD Cert.MixingReferenceIdeal.τ).loc Cert.MixingReferenceIdeal.main_arg5) = m ((c.tc : Thread Cert.MixingIdeal.nD Cert.MixingIdeal.τ).loc Cert.MixingIdeal.main_arg5)
      ∧ m' ((c.tc : Thread Cert.MixingReferenceIdeal.nD Cert.MixingReferenceIdeal.τ).loc Cert.MixingReferenceIdeal.main_arg6) = m ((c.tc : Thread Cert.MixingIdeal.nD Cert.MixingIdeal.τ).loc Cert.MixingIdeal.main_arg6)
      ∧ m' ((c.tc : Thread Cert.MixingReferenceIdeal.nD Cert.MixingReferenceIdeal.τ).loc Cert.MixingReferenceIdeal.main_arg7) = m ((c.tc : Thread Cert.MixingIdeal.nD Cert.MixingIdeal.τ).loc Cert.MixingIdeal.main_arg7)
      ∧ m' ((c.tc : Thread Cert.MixingReferenceIdeal.nD Cert.MixingReferenceIdeal.τ).loc Cert.MixingReferenceIdeal.main_arg8) = m ((c.tc : Thread Cert.MixingIdeal.nD Cert.MixingIdeal.τ).loc Cert.MixingIdeal.main_arg8)
      ∧ m' ((c.tc : Thread Cert.MixingReferenceIdeal.nD Cert.MixingReferenceIdeal.τ).loc Cert.MixingReferenceIdeal.main_arg9) = m ((c.tc : Thread Cert.MixingIdeal.nD Cert.MixingIdeal.τ).loc Cert.MixingIdeal.main_arg9)
      ∧ m' ((c.tc : Thread Cert.MixingReferenceIdeal.nD Cert.MixingReferenceIdeal.τ).loc Cert.MixingReferenceIdeal.main_arg10) = m ((c.tc : Thread Cert.MixingIdeal.nD Cert.MixingIdeal.τ).loc Cert.MixingIdeal.main_arg10)
      ∧ m' ((c.tc : Thread Cert.MixingReferenceIdeal.nD Cert.MixingReferenceIdeal.τ).loc Cert.MixingReferenceIdeal.main_arg11) = m ((c.tc : Thread Cert.MixingIdeal.nD Cert.MixingIdeal.τ).loc Cert.MixingIdeal.main_arg11)
      ∧ m' ((c.tc : Thread Cert.MixingReferenceIdeal.nD Cert.MixingReferenceIdeal.τ).loc Cert.MixingReferenceIdeal.main_arg12) = m ((c.tc : Thread Cert.MixingIdeal.nD Cert.MixingIdeal.τ).loc Cert.MixingIdeal.main_arg12)) →
    ∃ (v0 : (c : Dev Cert.MixingIdeal.nD) → Buf (Elt Ideal) ((c.tc : Thread Cert.MixingIdeal.nD Cert.MixingIdeal.τ).loc Cert.MixingIdeal.main_v7_0)) (v1 : (c : Dev Cert.MixingIdeal.nD) → Buf (Elt Ideal) ((c.tc : Thread Cert.MixingIdeal.nD Cert.MixingIdeal.τ).loc Cert.MixingIdeal.main_v7_1)) (v2 : (c : Dev Cert.MixingIdeal.nD) → Buf (Elt Ideal) ((c.tc : Thread Cert.MixingIdeal.nD Cert.MixingIdeal.τ).loc Cert.MixingIdeal.main_v7_2)) (v3 : (c : Dev Cert.MixingIdeal.nD) → Buf (Elt Ideal) ((c.tc : Thread Cert.MixingIdeal.nD Cert.MixingIdeal.τ).loc Cert.MixingIdeal.main_v7_3)),
      θ_run (Cert.MixingIdeal.defs (F := Ideal)) (onTc (τ := Cert.MixingIdeal.τ) (Cert.MixingIdeal.main (F := Ideal))) ⟨m, fun _ => 0, g⟩ (fun r => ∀ c : Dev Cert.MixingIdeal.nD,
          r.2.mem ((c.tc : Thread Cert.MixingIdeal.nD Cert.MixingIdeal.τ).loc Cert.MixingIdeal.main_v7_0) = v0 c
          ∧ r.2.mem ((c.tc : Thread Cert.MixingIdeal.nD Cert.MixingIdeal.τ).loc Cert.MixingIdeal.main_v7_1) = v1 c
          ∧ r.2.mem ((c.tc : Thread Cert.MixingIdeal.nD Cert.MixingIdeal.τ).loc Cert.MixingIdeal.main_v7_2) = v2 c
          ∧ r.2.mem ((c.tc : Thread Cert.MixingIdeal.nD Cert.MixingIdeal.τ).loc Cert.MixingIdeal.main_v7_3) = v3 c
          ∧ r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
          ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
          ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
          ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
          ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
          ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
          ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
          ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
          ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
          ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
          ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
          ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
          ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12))
      ∧ θ_run (Cert.MixingReferenceIdeal.defs (F := Ideal)) (onTc (τ := Cert.MixingReferenceIdeal.τ) (Cert.MixingReferenceIdeal.main (F := Ideal))) ⟨m', fun _ => 0, g'⟩ (fun r => ∀ c : Dev Cert.MixingReferenceIdeal.nD,
          r.2.mem ((c.tc : Thread Cert.MixingReferenceIdeal.nD Cert.MixingReferenceIdeal.τ).loc Cert.MixingReferenceIdeal.main_v29) = v0 c
          ∧ r.2.mem ((c.tc : Thread Cert.MixingReferenceIdeal.nD Cert.MixingReferenceIdeal.τ).loc Cert.MixingReferenceIdeal.main_v45) = v1 c
          ∧ r.2.mem ((c.tc : Thread Cert.MixingReferenceIdeal.nD Cert.MixingReferenceIdeal.τ).loc Cert.MixingReferenceIdeal.main_v52) = v2 c
          ∧ r.2.mem ((c.tc : Thread Cert.MixingReferenceIdeal.nD Cert.MixingReferenceIdeal.τ).loc Cert.MixingReferenceIdeal.main_v53) = v3 c
          ∧ r.2.mem ((c.tc : Thread Cert.MixingReferenceIdeal.nD Cert.MixingReferenceIdeal.τ).loc Cert.MixingReferenceIdeal.main_arg0) = m' ((c.tc : Thread Cert.MixingReferenceIdeal.nD Cert.MixingReferenceIdeal.τ).loc Cert.MixingReferenceIdeal.main_arg0)
          ∧ r.2.mem ((c.tc : Thread Cert.MixingReferenceIdeal.nD Cert.MixingReferenceIdeal.τ).loc Cert.MixingReferenceIdeal.main_arg1) = m' ((c.tc : Thread Cert.MixingReferenceIdeal.nD Cert.MixingReferenceIdeal.τ).loc Cert.MixingReferenceIdeal.main_arg1)
          ∧ r.2.mem ((c.tc : Thread Cert.MixingReferenceIdeal.nD Cert.MixingReferenceIdeal.τ).loc Cert.MixingReferenceIdeal.main_arg2) = m' ((c.tc : Thread Cert.MixingReferenceIdeal.nD Cert.MixingReferenceIdeal.τ).loc Cert.MixingReferenceIdeal.main_arg2)
          ∧ r.2.mem ((c.tc : Thread Cert.MixingReferenceIdeal.nD Cert.MixingReferenceIdeal.τ).loc Cert.MixingReferenceIdeal.main_arg3) = m' ((c.tc : Thread Cert.MixingReferenceIdeal.nD Cert.MixingReferenceIdeal.τ).loc Cert.MixingReferenceIdeal.main_arg3)
          ∧ r.2.mem ((c.tc : Thread Cert.MixingReferenceIdeal.nD Cert.MixingReferenceIdeal.τ).loc Cert.MixingReferenceIdeal.main_arg4) = m' ((c.tc : Thread Cert.MixingReferenceIdeal.nD Cert.MixingReferenceIdeal.τ).loc Cert.MixingReferenceIdeal.main_arg4)
          ∧ r.2.mem ((c.tc : Thread Cert.MixingReferenceIdeal.nD Cert.MixingReferenceIdeal.τ).loc Cert.MixingReferenceIdeal.main_arg5) = m' ((c.tc : Thread Cert.MixingReferenceIdeal.nD Cert.MixingReferenceIdeal.τ).loc Cert.MixingReferenceIdeal.main_arg5)
          ∧ r.2.mem ((c.tc : Thread Cert.MixingReferenceIdeal.nD Cert.MixingReferenceIdeal.τ).loc Cert.MixingReferenceIdeal.main_arg6) = m' ((c.tc : Thread Cert.MixingReferenceIdeal.nD Cert.MixingReferenceIdeal.τ).loc Cert.MixingReferenceIdeal.main_arg6)
          ∧ r.2.mem ((c.tc : Thread Cert.MixingReferenceIdeal.nD Cert.MixingReferenceIdeal.τ).loc Cert.MixingReferenceIdeal.main_arg7) = m' ((c.tc : Thread Cert.MixingReferenceIdeal.nD Cert.MixingReferenceIdeal.τ).loc Cert.MixingReferenceIdeal.main_arg7)
          ∧ r.2.mem ((c.tc : Thread Cert.MixingReferenceIdeal.nD Cert.MixingReferenceIdeal.τ).loc Cert.MixingReferenceIdeal.main_arg8) = m' ((c.tc : Thread Cert.MixingReferenceIdeal.nD Cert.MixingReferenceIdeal.τ).loc Cert.MixingReferenceIdeal.main_arg8)
          ∧ r.2.mem ((c.tc : Thread Cert.MixingReferenceIdeal.nD Cert.MixingReferenceIdeal.τ).loc Cert.MixingReferenceIdeal.main_arg9) = m' ((c.tc : Thread Cert.MixingReferenceIdeal.nD Cert.MixingReferenceIdeal.τ).loc Cert.MixingReferenceIdeal.main_arg9)
          ∧ r.2.mem ((c.tc : Thread Cert.MixingReferenceIdeal.nD Cert.MixingReferenceIdeal.τ).loc Cert.MixingReferenceIdeal.main_arg10) = m' ((c.tc : Thread Cert.MixingReferenceIdeal.nD Cert.MixingReferenceIdeal.τ).loc Cert.MixingReferenceIdeal.main_arg10)
          ∧ r.2.mem ((c.tc : Thread Cert.MixingReferenceIdeal.nD Cert.MixingReferenceIdeal.τ).loc Cert.MixingReferenceIdeal.main_arg11) = m' ((c.tc : Thread Cert.MixingReferenceIdeal.nD Cert.MixingReferenceIdeal.τ).loc Cert.MixingReferenceIdeal.main_arg11)
          ∧ r.2.mem ((c.tc : Thread Cert.MixingReferenceIdeal.nD Cert.MixingReferenceIdeal.τ).loc Cert.MixingReferenceIdeal.main_arg12) = m' ((c.tc : Thread Cert.MixingReferenceIdeal.nD Cert.MixingReferenceIdeal.τ).loc Cert.MixingReferenceIdeal.main_arg12))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)) →
    ∃ (v0 : (c : Dev Cert.ProjectionIdeal.nD) → Buf (Elt Ideal) ((c.tc : Thread Cert.ProjectionIdeal.nD Cert.ProjectionIdeal.τ).loc Cert.ProjectionIdeal.main_v18_0)) (v1 : (c : Dev Cert.ProjectionIdeal.nD) → Buf (Elt Ideal) ((c.tc : Thread Cert.ProjectionIdeal.nD Cert.ProjectionIdeal.τ).loc Cert.ProjectionIdeal.main_v18_1)) (v2 : (c : Dev Cert.ProjectionIdeal.nD) → Buf (Elt Ideal) ((c.tc : Thread Cert.ProjectionIdeal.nD Cert.ProjectionIdeal.τ).loc Cert.ProjectionIdeal.main_v18_2)) (v3 : (c : Dev Cert.ProjectionIdeal.nD) → Buf (Elt Ideal) ((c.tc : Thread Cert.ProjectionIdeal.nD Cert.ProjectionIdeal.τ).loc Cert.ProjectionIdeal.main_v18_3)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v18_0) = v0 c
          ∧ r.2.mem ((c.tc : Thread Cert.ProjectionIdeal.nD Cert.ProjectionIdeal.τ).loc Cert.ProjectionIdeal.main_v18_1) = v1 c
          ∧ r.2.mem ((c.tc : Thread Cert.ProjectionIdeal.nD Cert.ProjectionIdeal.τ).loc Cert.ProjectionIdeal.main_v18_2) = v2 c
          ∧ r.2.mem ((c.tc : Thread Cert.ProjectionIdeal.nD Cert.ProjectionIdeal.τ).loc Cert.ProjectionIdeal.main_v18_3) = v3 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v52) = v0 c
          ∧ r.2.mem ((c.tc : Thread Cert.ProjectionReferenceIdeal.nD Cert.ProjectionReferenceIdeal.τ).loc Cert.ProjectionReferenceIdeal.main_v54) = v1 c
          ∧ r.2.mem ((c.tc : Thread Cert.ProjectionReferenceIdeal.nD Cert.ProjectionReferenceIdeal.τ).loc Cert.ProjectionReferenceIdeal.main_v56) = v2 c
          ∧ r.2.mem ((c.tc : Thread Cert.ProjectionReferenceIdeal.nD Cert.ProjectionReferenceIdeal.τ).loc Cert.ProjectionReferenceIdeal.main_v58) = v3 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMixing : Cert.Mixing.Facts) (hMixingIdeal : Cert.MixingIdeal.Facts) (hMixingReferenceIdeal : Cert.MixingReferenceIdeal.Facts) (hProjection : Cert.Projection.Facts) (hProjectionIdeal : Cert.ProjectionIdeal.Facts) (hProjectionReferenceIdeal : Cert.ProjectionReferenceIdeal.Facts) (hPre_scores_finite : Cert.Pre_scores_finite.Facts) (hPre_tables_in_range : Cert.Pre_tables_in_range.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsReferenceIdeal (hExpertsReferenceIdeal := hExpertsReferenceIdeal)
    ∧ quiescent_ExpertsReferenceIdeal_pre_tables_in_range (hExpertsReferenceIdeal := hExpertsReferenceIdeal) (hPre_tables_in_range := hPre_tables_in_range)
    ∧ quiescent_Mixing (hMixing := hMixing)
    ∧ quiescent_MixingIdeal (hMixingIdeal := hMixingIdeal)
    ∧ quiescent_MixingReferenceIdeal (hMixingReferenceIdeal := hMixingReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Experts_ExpertsIdeal
    ∧ algebraic_ExpertsIdeal_ExpertsReferenceIdeal (hExpertsIdeal := hExpertsIdeal) (hExpertsReferenceIdeal := hExpertsReferenceIdeal) (hPre_tables_in_range := hPre_tables_in_range)
    ∧ preserves_Mixing_MixingIdeal
    ∧ algebraic_MixingIdeal_MixingReferenceIdeal (hMixingIdeal := hMixingIdeal) (hMixingReferenceIdeal := hMixingReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_scores_finite.lean ====
abbrev S8x16384x64 : Shape := ⟨3, ![8, 16384, 64]⟩
abbrev S8x256x64 : Shape := ⟨3, ![8, 256, 64]⟩
abbrev S8x15x31 : Shape := ⟨3, ![8, 15, 31]⟩
abbrev S_ : Shape := ⟨0, ![]⟩

class Facts : Prop where
  bitsLt_bf16_f32 : FTy.bits .bf16 < FTy.bits .f32
  bcast_S_S8x16384x64 : S_.BroadcastsInDim S8x16384x64 (![] : Fin 0 → Fin S8x16384x64.rank)
  reducesTo_S8x16384x64_S_d0_1_2 : S8x16384x64.ReducesTo [0, 1, 2] S_
  h_S_ : 0 < S_.numel
  bcast_S_S8x256x64 : S_.BroadcastsInDim S8x256x64 (![] : Fin 0 → Fin S8x256x64.rank)
  reducesTo_S8x256x64_S_d0_1_2 : S8x256x64.ReducesTo [0, 1, 2] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v16 : IVec S_ 1) (main_v17 : FVec F S8x15x31 .f32) : IVec S_ 1 :=
  let main_cst_4 : FVec F S_ .f32 := constant S_ .f32 0x7F800000#32
  let main_v18 : FVec F S8x15x31 .f32 := broadcastInDim S8x15x31 ![] bcast_S_S8x15x31 main_cst_4
  let main_v19 : IVec S8x15x31 1 := cmpf .olt main_v17 main_v18
  let main_c_5 : IVec S_ 1 := constantI S_ 1 1#1
  let main_v20 : IVec S_ 1 := (fun x v => Host.reduce IntOp.andi x v reducesTo_S8x15x31_S_d0_1_2 h_S_) main_v19 main_c_5
  let main_v21 : IVec S_ 1 := andi main_v16 main_v20
  main_v21

def fn {F : FTy → Type} [FloatOps F] (main_arg0 : FVec F S8x16384x64 .bf16) (main_arg1 : FVec F S8x16384x64 .bf16) (main_arg2 : FVec F S8x16384x64 .bf16) (main_arg3 : FVec F S8x256x64 .bf16) (main_arg4 : FVec F S8x256x64 .bf16) (main_arg5 : FVec F S8x15x31 .f32) : IVec S_ 1 :=
  let main_v0 : FVec F S8x16384x64 .f32 := (extf .f32 · bitsLt_bf16_f32) main_arg0
  let main_v1 : FVec F S8x16384x64 .f32 := Host.absf main_v0
  let main_cst : FVec F S_ .f32 := constant S_ .f32 0x7F800000#32
  let main_v2 : FVec F S8x16384x64 .f32 := broadcastInDim S8x16384x64 ![] bcast_S_S8x16384x64 main_cst
  let main_v3 : IVec S8x16384x64 1 := cmpf .olt main_v1 main_v2
  let main_c : IVec S_ 1 := constantI S_ 1 1#1
  let main_v4 : IVec S_ 1 := (fun x v => Host.reduce IntOp.andi x v reducesTo_S8x16384x64_S_d0_1_2 h_S_) main_v3 main_c
  let main_v5 : FVec F S8x16384x64 .f32 := (extf .f32 · bitsLt_bf16_f32) main_arg1
  let main_v6 : FVec F S8x16384x64 .f32 := Host.absf main_v5
  let main_cst_0 : FVec F S_ .f32 := constant S_ .f32 0x7F800000#32
  let main_v7 : FVec F S8x16384x64 .f32 := broadcastInDim S8x16384x64 ![] bcast_S_S8x16384x64 main_cst_0
  let main_v8 : IVec S8x16384x64 1 := cmpf .olt main_v6 main_v7
  let main_c_1 : IVec S_ 1 := constantI S_ 1 1#1
  let main_v9 : IVec S_ 1 := (fun x v => Host.reduce IntOp.andi x v reducesTo_S8x16384x64_S_d0_1_2 h_S_) main_v8 main_c_1
  let main_v10 : IVec S_ 1 := andi main_v4 main_v9
  let main_v11 : FVec F S8x256x64 .f32 := (extf .f32 · bitsLt_bf16_f32) main_arg3
  let main_v12 : FVec F S8x256x64 .f32 := Host.absf main_v11
  let main_cst_2 : FVec F S_ .f32 := constant S_ .f32 0x7F800000#32
  let main_v13 : FVec F S8x256x64 .f32 := broadcastInDim S8x256x64 ![] bcast_S_S8x256x64 main_cst_2
  let main_v14 : IVec S8x256x64 1 := cmpf .olt main_v12 main_v13
  let main_c_3 : IVec S_ 1 := constantI S_ 1 1#1
  let main_v15 : IVec S_ 1 := (fun x v => Host.reduce IntOp.andi x v reducesTo_S8x256x64_S_d0_1_2 h_S_) main_v14 main_c_3
  let main_v16 : IVec S_ 1 := andi main_v10 main_v15
  let main_v17 : FVec F S8x15x31 .f32 := Host.absf main_arg5
  fn_part1 (F := F) main_v16 main_v17
-- ==== Pre_tables_in_range.lean ====
abbrev S147456x1024 : Shape := ⟨2, ![147456, 1024]⟩
abbrev S576 : Shape := ⟨1, ![576]⟩
abbrev S1 : Shape := ⟨1, ![1]⟩
abbrev S64x1024x256 : Shape := ⟨3, ![64, 1024, 256]⟩
abbrev S64x256x1024 : Shape := ⟨3, ![64, 256, 1024]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S147456x1024 .f32) (main_arg1 : IVec S576 32) (main_arg2 : IVec S1 32) (main_arg3 : FVec F S64x1024x256 .bf16) (main_arg4 : FVec F S64x1024x256 .bf16) (main_arg5 : FVec F S64x256x1024 .bf16) : IVec S_ 1 :=
  let main_c : IVec S_ 32 := constantI S_ 32 0#32
  let main_v0 : IVec S576 32 := broadcastInDim S576 ![] bcast_S_S576 main_c
  let main_v1 : IVec S576 1 := cmpi .sge main_arg1 main_v0
  let main_c_0 : IVec S_ 32 := constantI S_ 32 64#32
  let main_v2 : IVec S576 32 := broadcastInDim S576 ![] bcast_S_S576 main_c_0
  let main_v3 : IVec S576 1 := cmpi .slt main_arg1 main_v2
  let main_v4 : IVec S576 1 := andi main_v1 main_v3
  let main_c_1 : IVec S_ 1 := constantI S_ 1 1#1
  let main_v5 : IVec S_ 1 := (fun x v => Host.reduce IntOp.andi x v reducesTo_S576_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 576#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S8x16384x64 : Shape := ⟨3, ![8, 16384, 64]⟩
abbrev S8x256x64 : Shape := ⟨3, ![8, 256, 64]⟩
abbrev S8x15x31 : Shape := ⟨3, ![8, 15, 31]⟩
abbrev S64x64 : Shape := ⟨2, ![64, 64]⟩
abbrev S1x1x64x64 : Shape := ⟨4, ![1, 1, 64, 64]⟩
abbrev S_ : Shape := ⟨0, ![]⟩
abbrev S64x64x1 : Shape := ⟨3, ![64, 64, 1]⟩
abbrev S8x15x64x64 : Shape := ⟨4, ![8, 15, 64, 64]⟩
abbrev S8x1x64x64 : Shape := ⟨4, ![8, 1, 64, 64]⟩
abbrev S8x64x64 : Shape := ⟨3, ![8, 64, 64]⟩
abbrev S8x64x512 : Shape := ⟨3, ![8, 64, 512]⟩
abbrev S1x8x64x512 : Shape := ⟨4, ![1, 8, 64, 512]⟩
abbrev S8x8x64x512 : Shape := ⟨4, ![8, 8, 64, 512]⟩
abbrev S1x64x64 : Shape := ⟨3, ![1, 64, 64]⟩
abbrev S512x64 : Shape := ⟨2, ![512, 64]⟩
abbrev S64x512 : Shape := ⟨2, ![64, 512]⟩
abbrev S1x1x64x512 : Shape := ⟨4, ![1, 1, 64, 512]⟩
abbrev S1x256x64 : Shape := ⟨3, ![1, 256, 64]⟩
abbrev S256x64 : Shape := ⟨2, ![256, 64]⟩
abbrev S64x256 : Shape := ⟨2, ![64, 256]⟩
abbrev S64 : Shape := ⟨1, ![64]⟩
abbrev S64x1 : Shape := ⟨2, ![64, 1]⟩

abbrev nBuf : Space → Nat
  | .hbm => 167
  | .vmem => 40
  | .smem => 0
  | _ => 0

abbrev hbmTy0_0 (i : Nat) : BufTy := match i % 128 with
  | 0 => ⟨S8x16384x64, .bf16⟩
  | 1 => ⟨S8x16384x64, .bf16⟩
  | 2 => ⟨S8x16384x64, .bf16⟩
  | 3 => ⟨S8x256x64, .bf16⟩
  | 4 => ⟨S8x256x64, .bf16⟩
  | 5 => ⟨S8x15x31, .f32⟩
  | 6 => ⟨S64x64, .i32⟩
  | 7 => ⟨S64x64, .i1⟩
  | 8 => ⟨S64x64, .i1⟩
  | 9 => ⟨S1x1x64x64, .i1⟩
  | 10 => ⟨S_, .i32⟩
  | 11 => ⟨S64x64, .i32⟩
  | 12 => ⟨S64x64, .i32⟩
  | 13 => ⟨S64x64, .i32⟩
  | 14 => ⟨S64x64x1, .i32⟩
  | 15 => ⟨S8x15x64x64, .f32⟩
  | 16 => ⟨S_, .f32⟩
  | 17 => ⟨S_, .f32⟩
  | 18 => ⟨S8x15x64x64, .i1⟩
  | 19 => ⟨S8x15x64x64, .f32⟩
  | 20 => ⟨S8x15x64x64, .f32⟩
  | 21 => ⟨S8x1x64x64, .f32⟩
  | 22 => ⟨S8x64x64, .f32⟩
  | 23 => ⟨S8x1x64x64, .f32⟩
  | 24 => ⟨S8x64x64, .f32⟩
  | 25 => ⟨S8x1x64x64, .f32⟩
  | 26 => ⟨S8x64x64, .f32⟩
  | 27 => ⟨S8x1x64x64, .f32⟩
  | 28 => ⟨S8x64x64, .f32⟩
  | 29 => ⟨S8x1x64x64, .f32⟩
  | 30 => ⟨S8x64x64, .f32⟩
  | 31 => ⟨S8x1x64x64, .f32⟩
  | 32 => ⟨S8x64x64, .f32⟩
  | 33 => ⟨S8x1x64x64, .f32⟩
  | 34 => ⟨S8x64x64, .f32⟩
  | 35 => ⟨S8x1x64x64, .f32⟩
  | 36 => ⟨S8x64x64, .f32⟩
  | 37 => ⟨S8x64x512, .f32⟩
  | 38 => ⟨S8x1x64x64, .f32⟩
  | 39 => ⟨S8x64x64, .f32⟩
  | 40 => ⟨S8x1x64x64, .f32⟩
  | 41 => ⟨S8x64x64, .f32⟩
  | 42 => ⟨S8x1x64x64, .f32⟩
  | 43 => ⟨S8x64x64, .f32⟩
  | 44 => ⟨S8x1x64x64, .f32⟩
  | 45 => ⟨S8x64x64, .f32⟩
  | 46 => ⟨S8x1x64x64, .f32⟩
  | 47 => ⟨S8x64x64, .f32⟩
  | 48 => ⟨S8x1x64x64, .f32⟩
  | 49 => ⟨S8x64x64, .f32⟩
  | 50 => ⟨S8x1x64x64, .f32⟩
  | 51 => ⟨S8x64x64, .f32⟩
  | 52 => ⟨S8x1x64x64, .f32⟩
  | 53 => ⟨S8x64x64, .f32⟩
  | 54 => ⟨S8x64x512, .f32⟩
  | 55 => ⟨S8x1x64x64, .f32⟩
  | 56 => ⟨S8x64x64, .f32⟩
  | 57 => ⟨S8x1x64x64, .f32⟩
  | 58 => ⟨S8x64x64, .f32⟩
  | 59 => ⟨S8x1x64x64, .f32⟩
  | 60 => ⟨S8x64x64, .f32⟩
  | 61 => ⟨S8x1x64x64, .f32⟩
  | 62 => ⟨S8x64x64, .f32⟩
  | 63 => ⟨S8x1x64x64, .f32⟩
  | 64 => ⟨S8x64x64, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x64x512, .f32⟩
  | 72 => ⟨S8x1x64x64, .f32⟩
  | 73 => ⟨S8x64x64, .f32⟩
  | 74 => ⟨S8x1x64x64, .f32⟩
  | 75 => ⟨S8x64x64, .f32⟩
  | 76 => ⟨S8x1x64x64, .f32⟩
  | 77 => ⟨S8x64x64, .f32⟩
  | 78 => ⟨S8x1x64x64, .f32⟩
  | 79 => ⟨S8x64x64, .f32⟩
  | 80 => ⟨S8x1x64x64, .f32⟩
  | 81 => ⟨S8x64x64, .f32⟩
  | 82 => ⟨S8x1x64x64, .f32⟩
  | 83 => ⟨S8x64x64, .f32⟩
  | 84 => ⟨S8x1x64x64, .f32⟩
  | 85 => ⟨S8x64x64, .f32⟩
  | 86 => ⟨S8x1x64x64, .f32⟩
  | 87 => ⟨S8x64x64, .f32⟩
  | 88 => ⟨S8x64x512, .f32⟩
  | 89 => ⟨S8x1x64x64, .f32⟩
  | 90 => ⟨S8x64x64, .f32⟩
  | 91 => ⟨S8x1x64x64, .f32⟩
  | 92 => ⟨S8x64x64, .f32⟩
  | 93 => ⟨S8x1x64x64, .f32⟩
  | 94 => ⟨S8x64x64, .f32⟩
  | 95 => ⟨S8x1x64x64, .f32⟩
  | 96 => ⟨S8x64x64, .f32⟩
  | 97 => ⟨S8x1x64x64, .f32⟩
  | 98 => ⟨S8x64x64, .f32⟩
  | 99 => ⟨S8x1x64x64, .f32⟩
  | 100 => ⟨S8x64x64, .f32⟩
  | 101 => ⟨S8x1x64x64, .f32⟩
  | 102 => ⟨S8x64x64, .f32⟩
  | 103 => ⟨S8x1x64x64, .f32⟩
  | 104 => ⟨S8x64x64, .f32⟩
  | 105 => ⟨S8x64x512, .f32⟩
  | 106 => ⟨S8x1x64x64, .f32⟩
  | 107 => ⟨S8x64x64, .f32⟩
  | 108 => ⟨S8x1x64x64, .f32⟩
  | 109 => ⟨S8x64x64, .f32⟩
  | 110 => ⟨S8x1x64x64, .f32⟩
  | 111 => ⟨S8x64x64, .f32⟩
  | 112 => ⟨S8x1x64x64, .f32⟩
  | 113 => ⟨S8x64x64, .f32⟩
  | 114 => ⟨S8x1x64x64, .f32⟩
  | 115 => ⟨S8x64x64, .f32⟩
  | 116 => ⟨S8x1x64x64, .f32⟩
  | 117 => ⟨S8x64x64, .f32⟩
  | 118 => ⟨S8x1x64x64, .f32⟩
  | 119 => ⟨S8x64x64, .f32⟩
  | 120 => ⟨S8x1x64x64, .f32⟩
  | 121 => ⟨S8x64x64, .f32⟩
  | 122 => ⟨S8x64x512, .f32⟩
  | 123 => ⟨S8x1x64x64, .f32⟩
  | 124 => ⟨S8x64x64, .f32⟩
  | 125 => ⟨S8x1x64x64, .f32⟩
  | 126 => ⟨S8x64x64, .f32⟩
  | 127 => ⟨S8x1x64x64, .f32⟩
  | _ => ⟨S8x16384x64, .bf16⟩

abbrev hbmTy0_1 (i : Nat) : BufTy := match i % 128 with
  | 0 => ⟨S8x64x64, .f32⟩
  | 1 => ⟨S8x1x64x64, .f32⟩
  | 2 => ⟨S8x64x64, .f32⟩
  | 3 => ⟨S8x1x64x64, .f32⟩
  | 4 => ⟨S8x64x64, .f32⟩
  | 5 => ⟨S8x1x64x64, .f32⟩
  | 6 => ⟨S8x64x64, .f32⟩
  | 7 => ⟨S8x1x64x64, .f32⟩
  | 8 => ⟨S8x64x64, .f32⟩
  | 9 => ⟨S8x1x64x64, .f32⟩
  | 10 => ⟨S8x64x64, .f32⟩
  | 11 => ⟨S8x64x512, .f32⟩
  | 12 => ⟨S8x1x64x64, .f32⟩
  | 13 => ⟨S8x64x64, .f32⟩
  | 14 => ⟨S8x1x64x64, .f32⟩
  | 15 => ⟨S8x64x64, .f32⟩
  | 16 => ⟨S8x1x64x64, .f32⟩
  | 17 => ⟨S8x64x64, .f32⟩
  | 18 => ⟨S8x1x64x64, .f32⟩
  | 19 => ⟨S8x64x64, .f32⟩
  | 20 => ⟨S8x1x64x64, .f32⟩
  | 21 => ⟨S8x64x64, .f32⟩
  | 22 => ⟨S8x1x64x64, .f32⟩
  | 23 => ⟨S8x64x64, .f32⟩
  | 24 => ⟨S8x1x64x64, .f32⟩
  | 25 => ⟨S8x64x64, .f32⟩
  | 26 => ⟨S8x1x64x64, .f32⟩
  | 27 => ⟨S8x64x64, .f32⟩
  | 28 => ⟨S8x64x512, .f32⟩
  | 29 => ⟨S1x8x64x512, .f32⟩
  | 30 => ⟨S1x8x64x512, .f32⟩
  | 31 => ⟨S1x8x64x512, .f32⟩
  | 32 => ⟨S1x8x64x512, .f32⟩
  | 33 => ⟨S1x8x64x512, .f32⟩
  | 34 => ⟨S1x8x64x512, .f32⟩
  | 35 => ⟨S1x8x64x512, .f32⟩
  | 36 => ⟨S1x8x64x512, .f32⟩
  | 37 => ⟨S8x8x64x512, .f32⟩
  | 38 => ⟨S8x16384x64, .bf16⟩
  | _ => ⟨S8x16384x64, .bf16⟩

abbrev hbmTy (i : Nat) : BufTy := match i / 128 with
  | 0 => hbmTy0_0 i
  | 1 => hbmTy0_1 i
  | _ => ⟨S8x16384x64, .bf16⟩

abbrev bufTy : (tb : Table) → Fin (tcTables nBuf tb) → BufTy
  | .hbm, ⟨i, _⟩ => hbmTy i
  | .local _ .vmem, ⟨0, _⟩ => ⟨S8x64x64, .bf16⟩
  | .local _ .vmem, ⟨1, _⟩ => ⟨S8x64x64, .bf16⟩
  | .local _ .vmem, ⟨2, _⟩ => ⟨S8x64x64, .bf16⟩
  | .local _ .vmem, ⟨3, _⟩ => ⟨S8x64x64, .bf16⟩
  | .local _ .vmem, ⟨4, _⟩ => ⟨S8x64x64, .bf16⟩
  | .local _ .vmem, ⟨5, _⟩ => ⟨S8x64x64, .bf16⟩
  | .local _ .vmem, ⟨6, _⟩ => ⟨S8x64x64, .bf16⟩
  | .local _ .vmem, ⟨7, _⟩ => ⟨S8x64x64, .bf16⟩
  | .local _ .vmem, ⟨8, _⟩ => ⟨S8x64x64, .bf16⟩
  | .local _ .vmem, ⟨9, _⟩ => ⟨S8x64x64, .bf16⟩
  | .local _ .vmem, ⟨10, _⟩ => ⟨S8x64x64, .bf16⟩
  | .local _ .vmem, ⟨11, _⟩ => ⟨S8x64x64, .bf16⟩
  | .local _ .vmem, ⟨12, _⟩ => ⟨S8x64x64, .bf16⟩
  | .local _ .vmem, ⟨13, _⟩ => ⟨S8x64x64, .bf16⟩
  | .local _ .vmem, ⟨14, _⟩ => ⟨S8x64x64, .bf16⟩
  | .local _ .vmem, ⟨15, _⟩ => ⟨S8x64x64, .bf16⟩
  | .local _ .vmem, ⟨16, _⟩ => ⟨S8x64x64, .bf16⟩
  | .local _ .vmem, ⟨17, _⟩ => ⟨S8x64x64, .bf16⟩
  | .local _ .vmem, ⟨18, _⟩ => ⟨S8x64x64, .bf16⟩
  | .local _ .vmem, ⟨19, _⟩ => ⟨S8x64x64, .bf16⟩
  | .local _ .vmem, ⟨20, _⟩ => ⟨S8x64x64, .bf16⟩
  | .local _ .vmem, ⟨21, _⟩ => ⟨S8x64x64, .bf16⟩
  | .local _ .vmem, ⟨22, _⟩ => ⟨S8x64x64, .bf16⟩
  | .local _ .vmem, ⟨23, _⟩ => ⟨S8x64x64, .bf16⟩
  | .local _ .vmem, ⟨24, _⟩ => ⟨S8x64x64, .bf16⟩
  | .local _ .vmem, ⟨25, _⟩ => ⟨S8x64x64, .bf16⟩
  | .local _ .vmem, ⟨26, _⟩ => ⟨S8x64x64, .bf16⟩
  | .local _ .vmem, ⟨27, _⟩ => ⟨S8x64x64, .bf16⟩
  | .local _ .vmem, ⟨28, _⟩ => ⟨S8x64x64, .bf16⟩
  | .local _ .vmem, ⟨29, _⟩ => ⟨S8x64x64, .bf16⟩
  | .local _ .vmem, ⟨30, _⟩ => ⟨S8x64x64, .bf16⟩
  | .local _ .vmem, ⟨31, _⟩ => ⟨S8x64x64, .bf16⟩
  | .local _ .vmem, ⟨32, _⟩ => ⟨S8x64x64, .bf16⟩
  | .local _ .vmem, ⟨33, _⟩ => ⟨S8x64x64, .bf16⟩
  | .local _ .vmem, ⟨34, _⟩ => ⟨S8x256x64, .bf16⟩
  | .local _ .vmem, ⟨35, _⟩ => ⟨S8x256x64, .bf16⟩
  | .local _ .vmem, ⟨36, _⟩ => ⟨S1x8x64x512, .f32⟩
  | .local _ .vmem, ⟨37, _⟩ => ⟨S1x8x64x512, .f32⟩
  | .local _ .vmem, ⟨38, _⟩ => ⟨S8x64x64, .bf16⟩
  | .local _ .vmem, ⟨39, _⟩ => ⟨S8x64x64, .bf16⟩
  | _, _ => ⟨S8x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_c_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c0_i32_0 : BitVec 32 := 0#32
  let v3 : BitVec 32 := Scalar.addi v2 c0_i32_0
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c1_i32 : BitVec 32 := 1#32
  let v3 : BitVec 32 := Scalar.addi v2 c1_i32
  let c0_i32_0 : BitVec 32 := 0#32
  let c0_i32_1 : BitVec 32 := 0#32
  let c0_i32_2 : BitVec 32 := 0#32
  ![c0_i32_0.toNat, v3.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c2_i32 : BitVec 32 := 2#32
  let v3 : BitVec 32 := Scalar.addi v2 c2_i32
  let c0_i32_0 : BitVec 32 := 0#32
  let c0_i32_1 : BitVec 32 := 0#32
  let c0_i32_2 : BitVec 32 := 0#32
  ![c0_i32_0.toNat, v3.toNat, c0_i32_1.toNat]

def cc0_transform_4 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c3_i32 : BitVec 32 := 3#32
  let v3 : BitVec 32 := Scalar.addi v2 c3_i32
  let c0_i32_0 : BitVec 32 := 0#32
  let c0_i32_1 : BitVec 32 := 0#32
  let c0_i32_2 : BitVec 32 := 0#32
  ![c0_i32_0.toNat, v3.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c4_i32_0 : BitVec 32 := 4#32
  let v3 : BitVec 32 := Scalar.addi v2 c4_i32_0
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c5_i32 : BitVec 32 := 5#32
  let v3 : BitVec 32 := Scalar.addi v2 c5_i32
  let c0_i32_0 : BitVec 32 := 0#32
  let c0_i32_1 : BitVec 32 := 0#32
  let c0_i32_2 : BitVec 32 := 0#32
  ![c0_i32_0.toNat, v3.toNat, c0_i32_1.toNat]

def cc0_transform_7 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c6_i32 : BitVec 32 := 6#32
  let v3 : BitVec 32 := Scalar.addi v2 c6_i32
  let c0_i32_0 : BitVec 32 := 0#32
  let c0_i32_1 : BitVec 32 := 0#32
  let c0_i32_2 : BitVec 32 := 0#32
  ![c0_i32_0.toNat, v3.toNat, c0_i32_1.toNat]

def cc0_transform_8 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c7_i32 : BitVec 32 := 7#32
  let v3 : BitVec 32 := Scalar.addi v2 c7_i32
  let c0_i32_0 : BitVec 32 := 0#32
  let c0_i32_1 : BitVec 32 := 0#32
  let c0_i32_2 : BitVec 32 := 0#32
  ![c0_i32_0.toNat, v3.toNat, c0_i32_1.toNat]

def cc0_transform_9 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c0_i32_0 : BitVec 32 := 0#32
  let v3 : BitVec 32 := Scalar.addi v2 c0_i32_0
  let c0_i32_1 : BitVec 32 := 0#32
  let c0_i32_2 : BitVec 32 := 0#32
  let c0_i32_3 : BitVec 32 := 0#32
  ![c0_i32_1.toNat, v3.toNat, c0_i32_2.toNat]

def cc0_transform_10 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c1_i32 : BitVec 32 := 1#32
  let v3 : BitVec 32 := Scalar.addi v2 c1_i32
  let c0_i32_0 : BitVec 32 := 0#32
  let c0_i32_1 : BitVec 32 := 0#32
  let c0_i32_2 : BitVec 32 := 0#32
  ![c0_i32_0.toNat, v3.toNat, c0_i32_1.toNat]

def cc0_transform_11 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c2_i32 : BitVec 32 := 2#32
  let v3 : BitVec 32 := Scalar.addi v2 c2_i32
  let c0_i32_0 : BitVec 32 := 0#32
  let c0_i32_1 : BitVec 32 := 0#32
  let c0_i32_2 : BitVec 32 := 0#32
  ![c0_i32_0.toNat, v3.toNat, c0_i32_1.toNat]

def cc0_transform_12 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c3_i32 : BitVec 32 := 3#32
  let v3 : BitVec 32 := Scalar.addi v2 c3_i32
  let c0_i32_0 : BitVec 32 := 0#32
  let c0_i32_1 : BitVec 32 := 0#32
  let c0_i32_2 : BitVec 32 := 0#32
  ![c0_i32_0.toNat, v3.toNat, c0_i32_1.toNat]

def cc0_transform_13 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c4_i32_0 : BitVec 32 := 4#32
  let v3 : BitVec 32 := Scalar.addi v2 c4_i32_0
  let c0_i32_1 : BitVec 32 := 0#32
  let c0_i32_2 : BitVec 32 := 0#32
  let c0_i32_3 : BitVec 32 := 0#32
  ![c0_i32_1.toNat, v3.toNat, c0_i32_2.toNat]

def cc0_transform_14 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c5_i32 : BitVec 32 := 5#32
  let v3 : BitVec 32 := Scalar.addi v2 c5_i32
  let c0_i32_0 : BitVec 32 := 0#32
  let c0_i32_1 : BitVec 32 := 0#32
  let c0_i32_2 : BitVec 32 := 0#32
  ![c0_i32_0.toNat, v3.toNat, c0_i32_1.toNat]

def cc0_transform_15 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c6_i32 : BitVec 32 := 6#32
  let v3 : BitVec 32 := Scalar.addi v2 c6_i32
  let c0_i32_0 : BitVec 32 := 0#32
  let c0_i32_1 : BitVec 32 := 0#32
  let c0_i32_2 : BitVec 32 := 0#32
  ![c0_i32_0.toNat, v3.toNat, c0_i32_1.toNat]

def cc0_transform_16 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c7_i32 : BitVec 32 := 7#32
  let v3 : BitVec 32 := Scalar.addi v2 c7_i32
  let c0_i32_0 : BitVec 32 := 0#32
  let c0_i32_1 : BitVec 32 := 0#32
  let c0_i32_2 : BitVec 32 := 0#32
  ![c0_i32_0.toNat, v3.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let v3 : BitVec 32 := Scalar.subi arg0 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x64x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x64x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x64x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x64x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x64x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x64x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x64x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x256x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x256x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x8x64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x64x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S8x16384x64 : Shape := ⟨3, ![8, 16384, 64]⟩
abbrev S8x256x64 : Shape := ⟨3, ![8, 256, 64]⟩
abbrev S8x15x31 : Shape := ⟨3, ![8, 15, 31]⟩
abbrev S16384x8x64 : Shape := ⟨3, ![16384, 8, 64]⟩
abbrev S256x8x64 : Shape := ⟨3, ![256, 8, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S8x15x64x16 : Shape := ⟨4, ![8, 15, 64, 16]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x128 : Shape := ⟨3, ![256, 64, 128]⟩
abbrev S256x64x8x64 : Shape := ⟨4, ![256, 64, 8, 64]⟩
abbrev S256x64x128x1 : Shape := ⟨4, ![256, 64, 128, 1]⟩
abbrev S256x64x128x8x64 : Shape := ⟨5, ![256, 64, 128, 8, 64]⟩
abbrev S256x8x1 : Shape := ⟨3, ![256, 8, 1]⟩
abbrev S8x256x8x64x16 : Shape := ⟨5, ![8, 256, 8, 64, 16]⟩
abbrev S256x8x64x8x16 : Shape := ⟨5, ![256, 8, 64, 8, 16]⟩
abbrev S256x8x64x128 : Shape := ⟨4, ![256, 8, 64, 128]⟩
abbrev S8x256x256x64 : Shape := ⟨4, ![8, 256, 256, 64]⟩
abbrev S256x8x64x256 : Shape := ⟨4, ![256, 8, 64, 256]⟩
abbrev S256x8x64x384 : Shape := ⟨4, ![256, 8, 64, 384]⟩
abbrev S256x8x64x1 : Shape := ⟨4, ![256, 8, 64, 1]⟩
abbrev S8x64x256x64 : Shape := ⟨4, ![8, 64, 256, 64]⟩

abbrev nBuf : Space → Nat
  | .hbm => 146
  | .vmem => 0
  | .smem => 0
  | _ => 0

abbrev hbmTy0_0 (i : Nat) : BufTy := match i % 128 with
  | 0 => ⟨S8x16384x64, .bf16⟩
  | 1 => ⟨S8x16384x64, .bf16⟩
  | 2 => ⟨S8x16384x64, .bf16⟩
  | 3 => ⟨S8x256x64, .bf16⟩
  | 4 => ⟨S8x256x64, .bf16⟩
  | 5 => ⟨S8x15x31, .f32⟩
  | 6 => ⟨S8x16384x64, .f32⟩
  | 7 => ⟨S16384x8x64, .f32⟩
  | 8 => ⟨S8x16384x64, .f32⟩
  | 9 => ⟨S16384x8x64, .f32⟩
  | 10 => ⟨S8x16384x64, .f32⟩
  | 11 => ⟨S16384x8x64, .f32⟩
  | 12 => ⟨S8x256x64, .f32⟩
  | 13 => ⟨S256x8x64, .f32⟩
  | 14 => ⟨S8x256x64, .f32⟩
  | 15 => ⟨S256x8x64, .f32⟩
  | 16 => ⟨S64, .i32⟩
  | 17 => ⟨S_, .i32⟩
  | 18 => ⟨S64, .i32⟩
  | 19 => ⟨S64, .i32⟩
  | 20 => ⟨S_, .i32⟩
  | 21 => ⟨S_, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64x1, .i32⟩
  | 29 => ⟨S16, .i32⟩
  | 30 => ⟨S1x16, .i32⟩
  | 31 => ⟨S64x16, .i32⟩
  | 32 => ⟨S64x16, .i32⟩
  | 33 => ⟨S64x16, .i32⟩
  | 34 => ⟨S64x1, .i32⟩
  | 35 => ⟨S64x16, .i32⟩
  | 36 => ⟨S64x16, .i32⟩
  | 37 => ⟨S_, .i32⟩
  | 38 => ⟨S64x16, .i32⟩
  | 39 => ⟨S64x16, .i32⟩
  | 40 => ⟨S_, .i32⟩
  | 41 => ⟨S64x16, .i32⟩
  | 42 => ⟨S64x16, .i1⟩
  | 43 => ⟨S_, .i32⟩
  | 44 => ⟨S64x16, .i32⟩
  | 45 => ⟨S64x16, .i32⟩
  | 46 => ⟨S64x16, .i32⟩
  | 47 => ⟨S64x16x1, .i32⟩
  | 48 => ⟨S8x15x64x16, .f32⟩
  | 49 => ⟨S256, .i32⟩
  | 50 => ⟨S_, .i32⟩
  | 51 => ⟨S256, .i32⟩
  | 52 => ⟨S256, .i32⟩
  | 53 => ⟨S_, .i32⟩
  | 54 => ⟨S_, .i32⟩
  | 55 => ⟨S_, .i32⟩
  | 56 => ⟨S256, .i32⟩
  | 57 => ⟨S256, .i32⟩
  | 58 => ⟨S_, .i32⟩
  | 59 => ⟨S256, .i32⟩
  | 60 => ⟨S256, .i32⟩
  | 61 => ⟨S256x1, .i32⟩
  | 62 => ⟨S8, .i32⟩
  | 63 => ⟨S1x8, .i32⟩
  | 64 => ⟨S256x8, .i32⟩
  | 65 => ⟨S256x8, .i32⟩
  | 66 => ⟨S256x8, .i32⟩
  | 67 => ⟨S256x1x8x1, .i32⟩
  | 68 => ⟨S_, .i32⟩
  | 69 => ⟨S256x1x8x1, .i32⟩
  | 70 => ⟨S256x1x8x1, .i32⟩
  | 71 => ⟨S1x64x1x16, .i32⟩
  | 72 => ⟨S256x64x8x16, .i32⟩
  | 73 => ⟨S256x64x8x16, .i32⟩
  | 74 => ⟨S256x64x8x16, .i32⟩
  | 75 => ⟨S256x64x128, .i32⟩
  | 76 => ⟨S256x64x8x64, .f32⟩
  | 77 => ⟨S_, .i32⟩
  | 78 => ⟨S256x64x128, .i32⟩
  | 79 => ⟨S256x64x128, .i1⟩
  | 80 => ⟨S_, .i32⟩
  | 81 => ⟨S256x64x128, .i32⟩
  | 82 => ⟨S256x64x128, .i32⟩
  | 83 => ⟨S256x64x128, .i32⟩
  | 84 => ⟨S256x64x128x1, .i32⟩
  | 85 => ⟨S256x64x128x8x64, .f32⟩
  | 86 => ⟨S_, .i32⟩
  | 87 => ⟨S256x64x128, .i32⟩
  | 88 => ⟨S256x64x128, .i1⟩
  | 89 => ⟨S_, .i32⟩
  | 90 => ⟨S256x64x128, .i32⟩
  | 91 => ⟨S256x64x128, .i32⟩
  | 92 => ⟨S256x64x128, .i32⟩
  | 93 => ⟨S256x64x128x1, .i32⟩
  | 94 => ⟨S256x64x128x8x64, .f32⟩
  | 95 => ⟨S256x1, .i32⟩
  | 96 => ⟨S256x8, .i32⟩
  | 97 => ⟨S256x8, .i32⟩
  | 98 => ⟨S_, .i32⟩
  | 99 => ⟨S256x8, .i32⟩
  | 100 => ⟨S256x8, .i32⟩
  | 101 => ⟨S_, .i32⟩
  | 102 => ⟨S256x8, .i32⟩
  | 103 => ⟨S256x8, .i1⟩
  | 104 => ⟨S_, .i32⟩
  | 105 => ⟨S256x8, .i32⟩
  | 106 => ⟨S256x8, .i32⟩
  | 107 => ⟨S256x8, .i32⟩
  | 108 => ⟨S256x8x1, .i32⟩
  | 109 => ⟨S8x256x8x64x16, .f32⟩
  | 110 => ⟨S256x8x64x8x16, .f32⟩
  | 111 => ⟨S256x8x64x128, .f32⟩
  | 112 => ⟨S256x8x64x128, .f32⟩
  | 113 => ⟨S_, .f32⟩
  | 114 => ⟨S256x8x64x128, .f32⟩
  | 115 => ⟨S256x8x64x128, .f32⟩
  | 116 => ⟨S256x8x64x128, .f32⟩
  | 117 => ⟨S8x256x256x64, .f32⟩
  | 118 => ⟨S256x8x64x256, .f32⟩
  | 119 => ⟨S_, .f32⟩
  | 120 => ⟨S256x8x64x256, .f32⟩
  | 121 => ⟨S256x8x64x256, .f32⟩
  | 122 => ⟨S256x8x64x384, .f32⟩
  | 123 => ⟨S_, .f32⟩
  | 124 => ⟨S256x8x64, .f32⟩
  | 125 => ⟨S_, .f32⟩
  | 126 => ⟨S256x8x64, .f32⟩
  | 127 => ⟨S256x8x64, .f32⟩
  | _ => ⟨S8x16384x64, .bf16⟩

abbrev hbmTy0_1 (i : Nat) : BufTy := match i % 128 with
  | 0 => ⟨S256x8x64x1, .f32⟩
  | 1 => ⟨S256x8x64x384, .f32⟩
  | 2 => ⟨S256x8x64x384, .f32⟩
  | 3 => ⟨S256x8x64x384, .f32⟩
  | 4 => ⟨S_, .f32⟩
  | 5 => ⟨S256x8x64, .f32⟩
  | 6 => ⟨S256x8x64x1, .f32⟩
  | 7 => ⟨S256x8x64x384, .f32⟩
  | 8 => ⟨S256x8x64x384, .f32⟩
  | 9 => ⟨S256x8x64x128, .f32⟩
  | 10 => ⟨S256x64x8x64, .f32⟩
  | 11 => ⟨S256x8x64x256, .f32⟩
  | 12 => ⟨S8x64x256x64, .f32⟩
  | 13 => ⟨S256x64x8x64, .f32⟩
  | 14 => ⟨S256x64x8x64, .f32⟩
  | 15 => ⟨S16384x8x64, .f32⟩
  | 16 => ⟨S8x16384x64, .f32⟩
  | 17 => ⟨S8x16384x64, .bf16⟩
  | _ => ⟨S8x16384x64, .bf16⟩

abbrev hbmTy (i : Nat) : BufTy := match i / 128 with
  | 0 => hbmTy0_0 i
  | 1 => hbmTy0_1 i
  | _ => ⟨S8x16384x64, .bf16⟩

abbrev bufTy : (tb : Table) → Fin (tcTables nBuf tb) → BufTy
  | .hbm, ⟨i, _⟩ => hbmTy i
  | _, _ => ⟨S8x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_c_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_17 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== Experts.lean ====
abbrev S147456x1024 : Shape := ⟨2, ![147456, 1024]⟩
abbrev S576 : Shape := ⟨1, ![576]⟩
abbrev S1 : Shape := ⟨1, ![1]⟩
abbrev S64x1024x256 : Shape := ⟨3, ![64, 1024, 256]⟩
abbrev S64x256x1024 : Shape := ⟨3, ![64, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 5
  | .vmem => 10
  | .smem => 2
  | _ => 0

abbrev bufTy : (tb : Table) → Fin (tcTables nBuf tb) → BufTy
  | .hbm, ⟨0, _⟩ => ⟨S147456x1024, .f32⟩
  | .hbm, ⟨1, _⟩ => ⟨S64x1024x256, .bf16⟩
  | .hbm, ⟨2, _⟩ => ⟨S64x1024x256, .bf16⟩
  | .hbm, ⟨3, _⟩ => ⟨S64x256x1024, .bf16⟩
  | .hbm, ⟨4, _⟩ => ⟨S147456x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .smem, ⟨0, _⟩ => ⟨S576, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S147456x1024 : Shape := ⟨2, ![147456, 1024]⟩
abbrev S576 : Shape := ⟨1, ![576]⟩
abbrev S1 : Shape := ⟨1, ![1]⟩
abbrev S64x1024x256 : Shape := ⟨3, ![64, 1024, 256]⟩
abbrev S64x256x1024 : Shape := ⟨3, ![64, 256, 1024]⟩
abbrev S576x256x1024 : Shape := ⟨3, ![576, 256, 1024]⟩
abbrev S_ : Shape := ⟨0, ![]⟩
abbrev S576x1 : Shape := ⟨2, ![576, 1]⟩
abbrev S576x1024x256 : Shape := ⟨3, ![576, 1024, 256]⟩
abbrev S576x256x256 : Shape := ⟨3, ![576, 256, 256]⟩
abbrev S576x1x1 : Shape := ⟨3, ![576, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S576, .i32⟩
  | .hbm, ⟨2, _⟩ => ⟨S1, .i32⟩
  | .hbm, ⟨3, _⟩ => ⟨S64x1024x256, .bf16⟩
  | .hbm, ⟨4, _⟩ => ⟨S64x1024x256, .bf16⟩
  | .hbm, ⟨5, _⟩ => ⟨S64x256x1024, .bf16⟩
  | .hbm, ⟨6, _⟩ => ⟨S64x1024x256, .f32⟩
  | .hbm, ⟨7, _⟩ => ⟨S64x1024x256, .f32⟩
  | .hbm, ⟨8, _⟩ => ⟨S64x256x1024, .f32⟩
  | .hbm, ⟨9, _⟩ => ⟨S576x256x1024, .f32⟩
  | .hbm, ⟨10, _⟩ => ⟨S_, .i32⟩
  | .hbm, ⟨11, _⟩ => ⟨S576, .i32⟩
  | .hbm, ⟨12, _⟩ => ⟨S576, .i1⟩
  | .hbm, ⟨13, _⟩ => ⟨S_, .i32⟩
  | .hbm, ⟨14, _⟩ => ⟨S576, .i32⟩
  | .hbm, ⟨15, _⟩ => ⟨S576, .i32⟩
  | .hbm, ⟨16, _⟩ => ⟨S576, .i32⟩
  | .hbm, ⟨17, _⟩ => ⟨S576x1, .i32⟩
  | .hbm, ⟨18, _⟩ => ⟨S576x1024x256, .f32⟩
  | .hbm, ⟨19, _⟩ => ⟨S576x256x256, .f32⟩
  | .hbm, ⟨20, _⟩ => ⟨S_, .i32⟩
  | .hbm, ⟨21, _⟩ => ⟨S576, .i32⟩
  | .hbm, ⟨22, _⟩ => ⟨S576, .i1⟩
  | .hbm, ⟨23, _⟩ => ⟨S_, .i32⟩
  | .hbm, ⟨24, _⟩ => ⟨S576, .i32⟩
  | .hbm, ⟨25, _⟩ => ⟨S576, .i32⟩
  | .hbm, ⟨26, _⟩ => ⟨S576, .i32⟩
  | .hbm, ⟨27, _⟩ => ⟨S576x1, .i32⟩
  | .hbm, ⟨28, _⟩ => ⟨S576x1024x256, .f32⟩
  | .hbm, ⟨29, _⟩ => ⟨S576x256x256, .f32⟩
  | .hbm, ⟨30, _⟩ => ⟨S576x256x256, .f32⟩
  | .hbm, ⟨31, _⟩ => ⟨S576x256x256, .f32⟩
  | .hbm, ⟨32, _⟩ => ⟨S_, .f32⟩
  | .hbm, ⟨33, _⟩ => ⟨S576x256x256, .f32⟩
  | .hbm, ⟨34, _⟩ => ⟨S576x256x256, .f32⟩
  | .hbm, ⟨35, _⟩ => ⟨S_, .f32⟩
  | .hbm, ⟨36, _⟩ => ⟨S576x256x256, .f32⟩
  | .hbm, ⟨37, _⟩ => ⟨S576x256x256, .f32⟩
  | .hbm, ⟨38, _⟩ => ⟨S576x256x256, .f32⟩
  | .hbm, ⟨39, _⟩ => ⟨S576x256x256, .f32⟩
  | .hbm, ⟨40, _⟩ => ⟨S_, .i32⟩
  | .hbm, ⟨41, _⟩ => ⟨S576, .i32⟩
  | .hbm, ⟨42, _⟩ => ⟨S576, .i1⟩
  | .hbm, ⟨43, _⟩ => ⟨S_, .i32⟩
  | .hbm, ⟨44, _⟩ => ⟨S576, .i32⟩
  | .hbm, ⟨45, _⟩ => ⟨S576, .i32⟩
  | .hbm, ⟨46, _⟩ => ⟨S576, .i32⟩
  | .hbm, ⟨47, _⟩ => ⟨S576x1, .i32⟩
  | .hbm, ⟨48, _⟩ => ⟨S576x256x1024, .f32⟩
  | .hbm, ⟨49, _⟩ => ⟨S576x256x1024, .f32⟩
  | .hbm, ⟨50, _⟩ => ⟨S576, .i32⟩
  | .hbm, ⟨51, _⟩ => ⟨S_, .i32⟩
  | .hbm, ⟨52, _⟩ => ⟨S576, .i32⟩
  | .hbm, ⟨53, _⟩ => ⟨S576, .i1⟩
  | .hbm, ⟨54, _⟩ => ⟨S576x1x1, .i1⟩
  | .hbm, ⟨55, _⟩ => ⟨S_, .f32⟩
  | .hbm, ⟨56, _⟩ => ⟨S_, .f32⟩
  | .hbm, ⟨57, _⟩ => ⟨S576x256x1024, .i1⟩
  | .hbm, ⟨58, _⟩ => ⟨S576x256x1024, .f32⟩
  | .hbm, ⟨59, _⟩ => ⟨S576x256x1024, .f32⟩
  | .hbm, ⟨60, _⟩ => ⟨S147456x1024, .f32⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Mixing.lean ====
abbrev S16384x512 : Shape := ⟨2, ![16384, 512]⟩
abbrev S16384x1024 : Shape := ⟨2, ![16384, 1024]⟩
abbrev S512x512 : Shape := ⟨2, ![512, 512]⟩
abbrev S512 : Shape := ⟨1, ![512]⟩
abbrev S1024x1024 : Shape := ⟨2, ![1024, 1024]⟩
abbrev S1x1024 : Shape := ⟨2, ![1, 1024]⟩
abbrev S1024x64 : Shape := ⟨2, ![1024, 64]⟩
abbrev S1024x256 : Shape := ⟨2, ![1024, 256]⟩
abbrev S256x1024 : Shape := ⟨2, ![256, 1024]⟩
abbrev S1x512 : Shape := ⟨2, ![1, 512]⟩
abbrev S64x1024 : Shape := ⟨2, ![64, 1024]⟩
abbrev S64x16384 : Shape := ⟨2, ![64, 16384]⟩
abbrev S256x512 : Shape := ⟨2, ![256, 512]⟩
abbrev S64x256 : Shape := ⟨2, ![64, 256]⟩
abbrev S512x1024 : Shape := ⟨2, ![512, 1024]⟩
abbrev S256 : Shape := ⟨1, ![256]⟩
abbrev S256x1 : Shape := ⟨2, ![256, 1]⟩
abbrev S256x256 : Shape := ⟨2, ![256, 256]⟩

abbrev nBuf : Space → Nat
  | .hbm => 24
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .bf16⟩
  | .hbm, ⟨2, _⟩ => ⟨S16384x1024, .f32⟩
  | .hbm, ⟨3, _⟩ => ⟨S512x512, .f32⟩
  | .hbm, ⟨4, _⟩ => ⟨S512, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x64, .f32⟩
  | .hbm, ⟨10, _⟩ => ⟨S1024x256, .f32⟩
  | .hbm, ⟨11, _⟩ => ⟨S1024x256, .f32⟩
  | .hbm, ⟨12, _⟩ => ⟨S256x1024, .f32⟩
  | .hbm, ⟨13, _⟩ => ⟨S512x512, .bf16⟩
  | .hbm, ⟨14, _⟩ => ⟨S1x512, .f32⟩
  | .hbm, ⟨15, _⟩ => ⟨S1024x1024, .bf16⟩
  | .hbm, ⟨16, _⟩ => ⟨S64x1024, .f32⟩
  | .hbm, ⟨17, _⟩ => ⟨S1024x256, .bf16⟩
  | .hbm, ⟨18, _⟩ => ⟨S1024x256, .bf16⟩
  | .hbm, ⟨19, _⟩ => ⟨S256x1024, .bf16⟩
  | .hbm, ⟨20, _⟩ => ⟨S16384x1024, .f32⟩
  | .hbm, ⟨21, _⟩ => ⟨S16384x1024, .f32⟩
  | .hbm, ⟨22, _⟩ => ⟨S64x16384, .f32⟩
  | .hbm, ⟨23, _⟩ => ⟨S16384x1024, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S512x512, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S64x1024, .f32⟩
  | .local _ .vmem, ⟨13, _⟩ => ⟨S1024x256, .bf16⟩
  | .local _ .vmem, ⟨14, _⟩ => ⟨S1024x256, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S64x256, .f32⟩
  | .local _ .vmem, ⟨21, _⟩ => ⟨S64x256, .f32⟩
  | .local _ .vmem, ⟨22, _⟩ => ⟨S256x1024, .bf16⟩
  | .local _ .vmem, ⟨23, _⟩ => ⟨S256x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixingReferenceIdeal.lean ====
abbrev S16384x512 : Shape := ⟨2, ![16384, 512]⟩
abbrev S16384x1024 : Shape := ⟨2, ![16384, 1024]⟩
abbrev S512x512 : Shape := ⟨2, ![512, 512]⟩
abbrev S512 : Shape := ⟨1, ![512]⟩
abbrev S1024x1024 : Shape := ⟨2, ![1024, 1024]⟩
abbrev S1x1024 : Shape := ⟨2, ![1, 1024]⟩
abbrev S1024x64 : Shape := ⟨2, ![1024, 64]⟩
abbrev S1024x256 : Shape := ⟨2, ![1024, 256]⟩
abbrev S256x1024 : Shape := ⟨2, ![256, 1024]⟩
abbrev S_ : Shape := ⟨0, ![]⟩
abbrev S1x512 : Shape := ⟨2, ![1, 512]⟩
abbrev S16384 : Shape := ⟨1, ![16384]⟩
abbrev S16384x1 : Shape := ⟨2, ![16384, 1]⟩
abbrev S16384x256 : Shape := ⟨2, ![16384, 256]⟩
abbrev S16384x64 : Shape := ⟨2, ![16384, 64]⟩
abbrev S64x16384 : Shape := ⟨2, ![64, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .bf16⟩
  | .hbm, ⟨2, _⟩ => ⟨S16384x1024, .f32⟩
  | .hbm, ⟨3, _⟩ => ⟨S512x512, .f32⟩
  | .hbm, ⟨4, _⟩ => ⟨S512, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x64, .f32⟩
  | .hbm, ⟨10, _⟩ => ⟨S1024x256, .f32⟩
  | .hbm, ⟨11, _⟩ => ⟨S1024x256, .f32⟩
  | .hbm, ⟨12, _⟩ => ⟨S256x1024, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x256, .f32⟩
  | .hbm, ⟨70, _⟩ => ⟨S16384x256, .f32⟩
  | .hbm, ⟨71, _⟩ => ⟨S16384x256, .f32⟩
  | .hbm, ⟨72, _⟩ => ⟨S_, .f32⟩
  | .hbm, ⟨73, _⟩ => ⟨S16384x256, .f32⟩
  | .hbm, ⟨74, _⟩ => ⟨S16384x256, .f32⟩
  | .hbm, ⟨75, _⟩ => ⟨S_, .f32⟩
  | .hbm, ⟨76, _⟩ => ⟨S16384x256, .f32⟩
  | .hbm, ⟨77, _⟩ => ⟨S16384x256, .f32⟩
  | .hbm, ⟨78, _⟩ => ⟨S16384x256, .f32⟩
  | .hbm, ⟨79, _⟩ => ⟨S16384x256, .f32⟩
  | .hbm, ⟨80, _⟩ => ⟨S16384x256, .f32⟩
  | .hbm, ⟨81, _⟩ => ⟨S16384x1024, .f32⟩
  | .hbm, ⟨82, _⟩ => ⟨S16384x64, .f32⟩
  | .hbm, ⟨83, _⟩ => ⟨S64x16384, .f32⟩
  | .hbm, ⟨84, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]
-- ==== Projection.lean ====
abbrev S16384x1024 : Shape := ⟨2, ![16384, 1024]⟩
abbrev S1x1024 : Shape := ⟨2, ![1, 1024]⟩
abbrev S1024x2048 : Shape := ⟨2, ![1024, 2048]⟩
abbrev S64 : Shape := ⟨1, ![64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16384x512 : Shape := ⟨2, ![16384, 512]⟩
abbrev S512x1024 : Shape := ⟨2, ![512, 1024]⟩
abbrev S512x1 : Shape := ⟨2, ![512, 1]⟩
abbrev S512x2048 : Shape := ⟨2, ![512, 2048]⟩

abbrev nBuf : Space → Nat
  | .hbm => 35
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S_, .f32⟩
  | .hbm, ⟨14, _⟩ => ⟨S64x64, .f32⟩
  | .hbm, ⟨15, _⟩ => ⟨S8x1x8x1, .f32⟩
  | .hbm, ⟨16, _⟩ => ⟨S1x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S512x512, .bf16⟩
  | .hbm, ⟨22, _⟩ => ⟨S1024x2048, .bf16⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S16384x512, .bf16⟩
  | .hbm, ⟨32, _⟩ => ⟨S16384x512, .bf16⟩
  | .hbm, ⟨33, _⟩ => ⟨S16384x512, .bf16⟩
  | .hbm, ⟨34, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjectionReferenceIdeal.lean ====
abbrev S16384x1024 : Shape := ⟨2, ![16384, 1024]⟩
abbrev S1x1024 : Shape := ⟨2, ![1, 1024]⟩
abbrev S1024x2048 : Shape := ⟨2, ![1024, 2048]⟩
abbrev S64 : Shape := ⟨1, ![64]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S16384x1536 : Shape := ⟨2, ![16384, 1536]⟩
abbrev S16384x3x8x64 : Shape := ⟨4, ![16384, 3, 8, 64]⟩
abbrev S16384x512 : Shape := ⟨2, ![16384, 512]⟩
abbrev S16384x1x8x64 : Shape := ⟨4, ![16384, 1, 8, 64]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x2048, .f32⟩
  | .hbm, ⟨27, _⟩ => ⟨S16384x1536, .f32⟩
  | .hbm, ⟨28, _⟩ => ⟨S16384x3x8x64, .f32⟩
  | .hbm, ⟨29, _⟩ => ⟨S16384x512, .f32⟩
  | .hbm, ⟨30, _⟩ => ⟨S16384x1x8x64, .f32⟩
  | .hbm, ⟨31, _⟩ => ⟨S16384x8x64, .f32⟩
  | .hbm, ⟨32, _⟩ => ⟨S16384x8x64, .f32⟩
  | .hbm, ⟨33, _⟩ => ⟨S_, .f32⟩
  | .hbm, ⟨34, _⟩ => ⟨S16384x8, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S16384x8x1, .f32⟩
  | .hbm, ⟨43, _⟩ => ⟨S16384x8x64, .f32⟩
  | .hbm, ⟨44, _⟩ => ⟨S16384x8x64, .f32⟩
  | .hbm, ⟨45, _⟩ => ⟨S1x1x64, .f32⟩
  | .hbm, ⟨46, _⟩ => ⟨S16384x8x64, .f32⟩
  | .hbm, ⟨47, _⟩ => ⟨S16384x8x64, .f32⟩
  | .hbm, ⟨48, _⟩ => ⟨S16384x1x8x64, .f32⟩
  | .hbm, ⟨49, _⟩ => ⟨S16384x8x64, .f32⟩
  | .hbm, ⟨50, _⟩ => ⟨S16384x8x64, .f32⟩
  | .hbm, ⟨51, _⟩ => ⟨S_, .f32⟩
  | .hbm, ⟨52, _⟩ => ⟨S16384x8, .f32⟩
  | .hbm, ⟨53, _⟩ => ⟨S16384x8x1, .f32⟩
  | .hbm, ⟨54, _⟩ => ⟨S_, .f32⟩
  | .hbm, ⟨55, _⟩ => ⟨S16384x8x1, .f32⟩
  | .hbm, ⟨56, _⟩ => ⟨S16384x8x1, .f32⟩
  | .hbm, ⟨57, _⟩ => ⟨S_, .f32⟩
  | .hbm, ⟨58, _⟩ => ⟨S16384x8x1, .f32⟩
  | .hbm, ⟨59, _⟩ => ⟨S16384x8x1, .f32⟩
  | .hbm, ⟨60, _⟩ => ⟨S16384x8x1, .f32⟩
  | .hbm, ⟨61, _⟩ => ⟨S16384x8x64, .f32⟩
  | .hbm, ⟨62, _⟩ => ⟨S16384x8x64, .f32⟩
  | .hbm, ⟨63, _⟩ => ⟨S1x1x64, .f32⟩
  | .hbm, ⟨64, _⟩ => ⟨S16384x8x64, .f32⟩
  | .hbm, ⟨65, _⟩ => ⟨S16384x8x64, .f32⟩
  | .hbm, ⟨66, _⟩ => ⟨S16384x1x8x64, .f32⟩
  | .hbm, ⟨67, _⟩ => ⟨S16384x8x64, .f32⟩
  | .hbm, ⟨68, _⟩ => ⟨S16384x512, .bf16⟩
  | .hbm, ⟨69, _⟩ => ⟨S16384x512, .f32⟩
  | .hbm, ⟨70, _⟩ => ⟨S16384x512, .bf16⟩
  | .hbm, ⟨71, _⟩ => ⟨S16384x512, .f32⟩
  | .hbm, ⟨72, _⟩ => ⟨S16384x512, .bf16⟩
  | .hbm, ⟨73, _⟩ => ⟨S16384x512, .f32⟩
  | .hbm, ⟨74, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Proof.Softmax.lean ====
/- Softmax attention of one query over the extended reals, in the two orders in which it is written.

   One query has scores `f` against its neighbourhood and `g` against the context, and the values `v` and `w` that go
   with them. With `M` the greatest score, `e = exp (s - M)` and `D` the sum of all the `e`:

   * divide last: `(Σ e·v + Σ e·w) / D`;
   * divide first: `Σ (e / D)·v + Σ (e / D)·w`.

   They are equal when `M` is a real number, whatever the values are (`divideFirst_eq`). A neighbourhood may also be
   spread over a longer list of scores that holds `⊥` at every further place: its weights there are `exp ⊥ = 0`, so
   maximum, sums and result are those of the short list (`fold_max_spread`, `sum_spread`). -/
module

public import Idealize.ShloMosaic.Lib.ValueIdx
public import Idealize.ShloMosaic.PureOps.Ideal.Laws

@[expose] public section

noncomputable section

namespace Cert.Softmax

open Idealize.ShloMosaic

/-- The weight of a score `s` when the greatest score is `M`. -/
def weight (M s : EReal) : EReal := Ideal.exp (s - M)

/-- The greatest of a list of scores, `⊥` for none. -/
def top {n : ℕ} (f : Fin n → EReal) : EReal := Finset.univ.fold max ⊥ f

/-- The sum of all the weights. -/
def total {a b : ℕ} (M : EReal) (f : Fin a → EReal) (g : Fin b → EReal) : EReal :=
  (∑ i, weight M (f i)) + ∑ i, weight M (g i)

/-- Softmax attention, divided once at the end. -/
def divideLast {a b : ℕ} (f v : Fin a → EReal) (g w : Fin b → EReal) : EReal :=
  Ideal.div ((∑ i, weight (max (top f) (top g)) (f i) * v i) + ∑ i, weight (max (top f) (top g)) (g i) * w i)
    (total (max (top f) (top g)) f g)

/-- Softmax attention, each weight divided first. -/
def divideFirst {a b : ℕ} (f v : Fin a → EReal) (g w : Fin b → EReal) : EReal :=
  (∑ i, Ideal.div (weight (max (top f) (top g)) (f i)) (total (max (top f) (top g)) f g) * v i)
    + ∑ i, Ideal.div (weight (max (top f) (top g)) (g i)) (total (max (top f) (top g)) f g) * w i

theorem top_le_iff {n : ℕ} (f : Fin n → EReal) (c : EReal) : top f ≤ c ↔ ∀ i, f i ≤ c := by
  simp [top, Finset.fold_max_le]

theorem le_top {n : ℕ} (f : Fin n → EReal) (i : Fin n) : f i ≤ top f := (top_le_iff f _).1 le_rfl i

/-- Some entry of a non-empty list is its greatest. -/
theorem exists_eq_top {n : ℕ} [NeZero n] (f : Fin n → EReal) : ∃ i, f i = top f := by
  obtain ⟨i, -, h⟩ := Finset.exists_max_image Finset.univ f ⟨0, Finset.mem_univ _⟩
  exact ⟨i, le_antisymm (le_top f i) ((top_le_iff f _).2 fun j => h j (Finset.mem_univ _))⟩

/-- A longer list that holds `f` at the places `φ` and `⊥` at the others has the same greatest entry. -/
theorem fold_max_spread {a n : ℕ} (f : Fin a → EReal) (F : Fin n → EReal) (φ : Fin a → Fin n)
    (h : ∀ i, F (φ i) = f i) (h' : ∀ k, k ∉ Set.range φ → F k = ⊥) : top F = top f := by
  refine le_antisymm ((top_le_iff F _).2 fun k => ?_) ((top_le_iff f _).2 fun i => h i ▸ le_top F (φ i))
  by_cases hk : k ∈ Set.range φ
  · obtain ⟨i, rfl⟩ := hk
    exact h i ▸ le_top f i
  · rw [h' k hk]; exact bot_le

theorem weight_bot (M : EReal) : weight M ⊥ = 0 := by
  rw [weight, sub_eq_add_neg, EReal.bot_add]; rfl

/-- … the same sum of weights … -/
theorem sum_weight_spread {a n : ℕ} (M : EReal) (f : Fin a → EReal) (F : Fin n → EReal) (φ : Fin a → Fin n)
    (hφ : Function.Injective φ) (h : ∀ i, F (φ i) = f i) (h' : ∀ k, k ∉ Set.range φ → F k = ⊥) :
    ∑ k, weight M (F k) = ∑ i, weight M (f i) :=
  (Fintype.sum_of_injective φ hφ _ _ (fun k hk => by rw [h' k hk, weight_bot]) fun i => by rw [h i]).symm

/-- … and the same weighted sum of values. -/
theorem sum_spread {a n : ℕ} (M : EReal) (f v : Fin a → EReal) (F V : Fin n → EReal) (φ : Fin a → Fin n)
    (hφ : Function.Injective φ) (h : ∀ i, F (φ i) = f i) (hv : ∀ i, V (φ i) = v i)
    (h' : ∀ k, k ∉ Set.range φ → F k = ⊥) : ∑ k, weight M (F k) * V k = ∑ i, weight M (f i) * v i :=
  (Fintype.sum_of_injective φ hφ _ _ (fun k hk => by rw [h' k hk, weight_bot, zero_mul])
    fun i => by rw [h i, hv i]).symm

/-- So the softmax attention is that of the short list. -/
theorem divideLast_spread {a b n : ℕ} (f v : Fin a → EReal) (F V : Fin n → EReal) (g w : Fin b → EReal)
    (φ : Fin a → Fin n) (hφ : Function.Injective φ) (h : ∀ i, F (φ i) = f i) (hv : ∀ i, V (φ i) = v i)
    (h' : ∀ k, k ∉ Set.range φ → F k = ⊥) : divideLast F V g w = divideLast f v g w := by
  unfold divideLast total
  rw [fold_max_spread f F φ h h', sum_weight_spread _ f F φ hφ h h', sum_spread _ f v F V φ hφ h hv h']

/-- Below a real greatest score every weight is a real number, not negative. -/
theorem weight_real (M : ℝ) (s : EReal) (hs : s ≤ M) : ∃ r : ℝ, 0 ≤ r ∧ weight M s = r := by
  induction s with
  | bot => exact ⟨0, le_rfl, weight_bot _⟩
  | coe x => exact ⟨Real.exp (x - M), (Real.exp_pos _).le, rfl⟩
  | top => exact absurd hs (by simp)

theorem weight_self (M : ℝ) : weight M M = 1 := by
  show Ideal.exp (((M - M : ℝ)) : EReal) = 1
  rw [sub_self]
  show ((Real.exp 0 : ℝ) : EReal) = 1
  simp

/-- A sum of weights below a real greatest score is a real number, not below any one of them. -/
theorem sum_weight_real {n : ℕ} (M : ℝ) (f : Fin n → EReal) (hf : ∀ i, f i ≤ M) :
    ∃ r : ℝ, 0 ≤ r ∧ (∑ i, weight M (f i)) = r ∧ ∀ i, f i = M → 1 ≤ r := by
  choose r hr hw using fun i => weight_real M (f i) (hf i)
  refine ⟨∑ i, r i, Finset.sum_nonneg fun i _ => hr i, ?_, fun i hi => ?_⟩
  · rw [Finset.sum_congr rfl fun i _ => hw i]
    exact (map_sum (⟨⟨Real.toEReal, EReal.coe_zero⟩, EReal.coe_add⟩ : ℝ →+ EReal) r Finset.univ).symm
  · have h1 : (r i : EReal) = 1 := by rw [← hw i, hi, weight_self]
    have : r i = 1 := by exact_mod_cast h1
    exact this ▸ Finset.single_le_sum (fun j _ => hr j) (Finset.mem_univ i)

/-- A factor that is a real number, not negative, goes into a sum of extended reals. -/
theorem sum_mul_real {n : ℕ} (x : Fin n → EReal) (c : ℝ) (hc : 0 ≤ c) : (∑ i, x i) * (c : EReal) = ∑ i, x i * c := by
  induction n with
  | zero => simp
  | succ n ih =>
    rw [Fin.sum_univ_succ, Fin.sum_univ_succ, ← ih,
      EReal.right_distrib_of_nonneg_of_ne_top (by exact_mod_cast hc) (EReal.coe_ne_top _)]

/-- Dividing first or last is the same when the greatest score is a real number. -/
theorem divideFirst_eq {a b : ℕ} [NeZero a] [NeZero b] (f v : Fin a → EReal) (g w : Fin b → EReal) (M : ℝ)
    (hM : max (top f) (top g) = M) : divideFirst f v g w = divideLast f v g w := by
  obtain ⟨r, hr, er, or⟩ := sum_weight_real M f fun i => (le_top f i).trans (hM ▸ le_max_left _ _)
  obtain ⟨s, hs, es, os⟩ := sum_weight_real M g fun i => (le_top g i).trans (hM ▸ le_max_right _ _)
  have h1 : 1 ≤ r + s := by
    obtain ⟨i, hi⟩ := exists_eq_top f
    obtain ⟨j, hj⟩ := exists_eq_top g
    rcases max_choice (top f) (top g) with h | h
    · have := or i (by rw [hi, ← h, hM]); linarith
    · have := os j (by rw [hj, ← h, hM]); linarith
  have h0 : r + s ≠ 0 := by linarith
  have ht : total M f g = ((r + s : ℝ) : EReal) := by rw [total, er, es, EReal.coe_add]
  have hc : 0 ≤ 1 / (r + s) := by positivity
  unfold divideFirst divideLast
  rw [hM, ht]
  simp only [Ideal.div_coe h0]
  rw [EReal.right_distrib_of_nonneg_of_ne_top (by exact_mod_cast hc) (EReal.coe_ne_top _),
    sum_mul_real _ _ hc, sum_mul_real _ _ hc]
  congr 1 <;> exact Finset.sum_congr rfl fun i _ => mul_right_comm _ _ _

end Cert.Softmax

end
-- ==== Proof.Head.lean ====
/- What one head of one grid point computes.

   A grid point holds one row of 64 queries, eight rows of 64 keys and values, the context's 256 keys and values and a
   bias of 64 × 512 (queries × the eight rows' keys). The body does the same for each of its eight heads: the eight
   key rows are stacked to 512 keys, the scores are `(q · k) / 8 + bias` against them and `(q · k) / 8` against the
   context, and the result is the softmax attention over both, divided once at the end. `head` is that computation in
   the body's own vector operations; `head_apply` reads it at one query and one channel. -/
module

public import proofs.«01_k».proof.Proof.Gen.KernelIdeal.Skeleton
public import proofs.«01_k».proof.Proof.Softmax
public import Idealize.ShloMosaic.Lib.Pointwise
public import Idealize.ShloMosaic.Lib.ValueLayout
public import Idealize.ShloMosaic.Lib.ValueLayoutCasts

@[expose] public section

set_option maxRecDepth 16384

noncomputable section

namespace Cert.Head

open Idealize.ShloMosaic Cert.KernelIdeal Cert.KernelIdeal.Gen Cert.Softmax

/-- The factor on a score, `1/8` (the root of the 64 channels). -/
def scale : EReal := Ideal.ofBits .f32 0x3E000000#32

section Ops
variable {F : FTy → Type} [FloatOps F]

/-- Eight rows of 64 under one another. -/
def stack (k : Fin 8 → Vec F S1x64x64 .bf16) : FVec F S512x64 .bf16 :=
  k0_pay3 (k 0) (k 1) (k 2) (k 3) (k 4) (k 5) (k 6) (k 7)

/-- One head of the body: queries, eight rows of keys and of values, the bias, the context's keys and values. -/
def head (q : Vec F S1x64x64 .bf16) (k v : Fin 8 → Vec F S1x64x64 .bf16) (b : Vec F S1x1x64x512 .f32)
    (kc vc : Vec F S1x256x64 .bf16) : FVec F S1x64x64 .bf16 :=
  k0_pay11 (stack v) (k0_pay8 (k0_pay2 q) kc) (k0_pay9 (k0_pay2 q) (stack k) b kc) (k0_pay10 (k0_pay2 q) (stack k) b kc) vc

end Ops

/-- Query `c`'s score against the `n`-th of the 512 keys. -/
def localScore (q : Vec Ideal S1x64x64 .bf16) (k : Fin 8 → Vec Ideal S1x64x64 .bf16) (b : Vec Ideal S1x1x64x512 .f32)
    (c : Fin 64) (n : Fin 512) : EReal :=
  (∑ e : Fin 64, q (ix3 0 c e) * k ⟨n.val / 64, by omega⟩ (ix3 0 ⟨n.val % 64, by omega⟩ e)) * scale + b (ix4 0 0 c n)

/-- Query `c`'s score against the `n`-th key of the context. -/
def ctxScore (q : Vec Ideal S1x64x64 .bf16) (kc : Vec Ideal S1x256x64 .bf16) (c : Fin 64) (n : Fin 256) : EReal :=
  (∑ e : Fin 64, q (ix3 0 c e) * kc (ix3 0 n e)) * scale

theorem stack_apply (k : Fin 8 → Vec Ideal S1x64x64 .bf16) (n : Fin 512) (e : Fin 64) :
    stack k (ix2 n e) = k ⟨n.val / 64, by omega⟩ (ix3 0 ⟨n.val % 64, by omega⟩ e) := by
  have h := concatenate_ofFn_apply (t := S512x64) (s₁ := S64x64) 0
    (fun i : Fin 8 => (shapeCast S64x64 (k i) Facts₀.shapeCasts_S1x64x64_S64x64 : FVec Ideal S64x64 .bf16))
    Facts₀.concatenates_S64x64_S64x64_S64x64_S64x64_S64x64_S64x64_S64x64_S64x64_S512x64_d0 rfl 64 rfl
    (ix2 n e) ⟨n.val / 64, by omega⟩ rfl (ix2 ⟨n.val % 64, by omega⟩ e) rfl
    (fun b hb => match b with | ⟨0, _⟩ => absurd rfl hb | ⟨1, _⟩ => rfl)
  refine Eq.trans ?_ (h.trans (by pointwise))
  rfl

theorem local_apply (q : Vec Ideal S1x64x64 .bf16) (k : Fin 8 → Vec Ideal S1x64x64 .bf16) (b : Vec Ideal S1x1x64x512 .f32)
    (c : Fin 64) (n : Fin 512) : k0_pay7 (k0_pay2 q) (stack k) b (ix2 c n) = localScore q k b c n := by
  pointwise [k0_pay7, k0_pay2]
  simp only [stack_apply]
  rfl

theorem ctx_apply (q : Vec Ideal S1x64x64 .bf16) (kc : Vec Ideal S1x256x64 .bf16) (c : Fin 64) (n : Fin 256) :
    k0_pay8 (k0_pay2 q) kc (ix2 c n) = ctxScore q kc c n := by
  pointwise [k0_pay8, k0_pay2]
  rfl

/-- The greatest score of query `c`. -/
theorem max_apply (q : Vec Ideal S1x64x64 .bf16) (k : Fin 8 → Vec Ideal S1x64x64 .bf16) (b : Vec Ideal S1x1x64x512 .f32)
    (kc : Vec Ideal S1x256x64 .bf16) (c : Fin 64) : k0_pay9 (k0_pay2 q) (stack k) b kc (ix2 c 0)
      = max (top (localScore q k b c)) (top (ctxScore q kc c)) := by
  unfold k0_pay9
  pointwise
  simp only [local_apply, ctx_apply]
  rfl

/-- The weight of the `n`-th of the 512 keys. -/
theorem exp_apply (q : Vec Ideal S1x64x64 .bf16) (k : Fin 8 → Vec Ideal S1x64x64 .bf16) (b : Vec Ideal S1x1x64x512 .f32)
    (kc : Vec Ideal S1x256x64 .bf16) (c : Fin 64) (n : Fin 512) : k0_pay10 (k0_pay2 q) (stack k) b kc (ix2 c n)
      = weight (max (top (localScore q k b c)) (top (ctxScore q kc c))) (localScore q k b c n) := by
  unfold k0_pay10
  pointwise
  simp only [local_apply, max_apply]
  rfl

/-- One head at query `c` and channel `d`: the softmax attention over the 512 keys and the context's 256. -/
theorem head_apply (q : Vec Ideal S1x64x64 .bf16) (k v : Fin 8 → Vec Ideal S1x64x64 .bf16) (b : Vec Ideal S1x1x64x512 .f32)
    (kc vc : Vec Ideal S1x256x64 .bf16) (c d : Fin 64) : head q k v b kc vc (ix3 0 c d)
      = divideLast (localScore q k b c) (fun n => v ⟨n.val / 64, by omega⟩ (ix3 0 ⟨n.val % 64, by omega⟩ d))
          (ctxScore q kc c) fun n => vc (ix3 0 n d) := by
  unfold head k0_pay11
  pointwise
  simp only [exp_apply, max_apply, ctx_apply, stack_apply]
  rfl

end Cert.Head

end
-- ==== Proof.Block.lean ====
/- What one grid point leaves in its block of the result: eight heads, each `Head.head` of its own row of every input
   block. -/
module

public import proofs.«01_k».proof.Proof.Gen.KernelIdeal.Frame
public import proofs.«01_k».proof.Proof.Head
public import Idealize.ShloMosaic.Lib.Pipeline.Value

@[expose] public section

set_option maxRecDepth 16384

noncomputable section

namespace Cert.Block

open Idealize.ShloMosaic Cert.KernelIdeal Cert.KernelIdeal.Gen Cert.Softmax Cert.Head

/-- The part of head `h` in a block of eight heads of 64 rows. -/
abbrev rows (h : Fin 8) : Rect S8x64x64 :=
  Rect.unit (s := S8x64x64) ![h.val, 0, 0] S1x64x64.size (by revert h; decide)

/-- The part of head `h` in a block of eight heads of 256 rows. -/
abbrev ctxRows (h : Fin 8) : Rect S8x256x64 :=
  Rect.unit (s := S8x256x64) ![h.val, 0, 0] S1x256x64.size (by revert h; decide)

/-- The part of head `h` in a block of biases. -/
abbrev biasRows (h : Fin 8) : Rect S1x8x64x512 :=
  Rect.unit (s := S1x8x64x512) ![0, h.val, 0, 0] S1x1x64x512.size (by revert h; decide)

theorem ld_rows (x : Vec Ideal S8x64x64 .bf16) (h : Fin 8) :
    View.ld x (rows h) = fun j : S1x64x64.Idx => x (ix3 h (j 1) (j 2)) := by
  funext j
  refine congrArg x (funext fun a => Fin.ext ?_)
  have h0 : (j 0).val = 0 := by have := (j 0).isLt; simpa using this
  match a with
  | ⟨0, _⟩ => show h.val + 1 * (j 0).val = h.val; omega
  | ⟨1, _⟩ => show 0 + 1 * (j 1).val = (j 1).val; omega
  | ⟨2, _⟩ => show 0 + 1 * (j 2).val = (j 2).val; omega

theorem ld_ctxRows (x : Vec Ideal S8x256x64 .bf16) (h : Fin 8) :
    View.ld x (ctxRows h) = fun j : S1x256x64.Idx => x (ix3 h (j 1) (j 2)) := by
  funext j
  refine congrArg x (funext fun a => Fin.ext ?_)
  have h0 : (j 0).val = 0 := by have := (j 0).isLt; simpa using this
  match a with
  | ⟨0, _⟩ => show h.val + 1 * (j 0).val = h.val; omega
  | ⟨1, _⟩ => show 0 + 1 * (j 1).val = (j 1).val; omega
  | ⟨2, _⟩ => show 0 + 1 * (j 2).val = (j 2).val; omega

theorem ld_biasRows (x : Vec Ideal S1x8x64x512 .f32) (h : Fin 8) :
    View.ld x (biasRows h) = fun j : S1x1x64x512.Idx => x (ix4 0 h (j 2) (j 3)) := by
  funext j
  refine congrArg x (funext fun a => Fin.ext ?_)
  have h0 : (j 0).val = 0 := by have := (j 0).isLt; simpa using this
  have h1 : (j 1).val = 0 := by have := (j 1).isLt; simpa using this
  match a with
  | ⟨0, _⟩ => show 0 + 1 * (j 0).val = 0; omega
  | ⟨1, _⟩ => show h.val + 1 * (j 1).val = h.val; omega
  | ⟨2, _⟩ => show 0 + 1 * (j 2).val = (j 2).val; omega
  | ⟨3, _⟩ => show 0 + 1 * (j 3).val = (j 3).val; omega

/-- Head `h` at query `c` and channel `d`, from the point's blocks: softmax attention over the 512 keys of eight rows
    and the context's 256. -/
def value (q : Vec Ideal S8x64x64 .bf16) (k v : Fin 8 → Vec Ideal S8x64x64 .bf16) (kc vc : Vec Ideal S8x256x64 .bf16)
    (b : Vec Ideal S1x8x64x512 .f32) (h : Fin 8) (c d : Fin 64) : EReal :=
  divideLast
    (fun n : Fin 512 => (∑ e : Fin 64, q (ix3 h c e) * k ⟨n.val / 64, by omega⟩ (ix3 h ⟨n.val % 64, by omega⟩ e)) * scale
      + b (ix4 0 h c n))
    (fun n : Fin 512 => v ⟨n.val / 64, by omega⟩ (ix3 h ⟨n.val % 64, by omega⟩ d))
    (fun n : Fin 256 => (∑ e : Fin 64, q (ix3 h c e) * kc (ix3 h n e)) * scale)
    (fun n : Fin 256 => vc (ix3 h n d))

/-- What head `h` stores is `value` at its place in the block. -/
theorem piece_eq (q : Vec Ideal S8x64x64 .bf16) (k v : Fin 8 → Vec Ideal S8x64x64 .bf16) (kc vc : Vec Ideal S8x256x64 .bf16)
    (b : Vec Ideal S1x8x64x512 .f32) (h : Fin 8) (x : S1x64x64.Idx) :
    head (View.ld q (rows h)) (fun i => View.ld (k i) (rows h)) (fun i => View.ld (v i) (rows h)) (View.ld b (biasRows h))
        (View.ld kc (ctxRows h)) (View.ld vc (ctxRows h)) x
      = (fun y : S8x64x64.Idx => value q k v kc vc b (y 0) (y 1) (y 2)) ((rows h).emb x) := by
  idx_vars x
  have e : (rows h).emb (ix3 x0 x1 x2) = ix3 h x1 x2 := by
    funext a
    refine Fin.ext ?_
    match a with
    | ⟨0, _⟩ => show h.val + 1 * x0.val = h.val; omega
    | ⟨1, _⟩ => show 0 + 1 * x1.val = x1.val; omega
    | ⟨2, _⟩ => show 0 + 1 * x2.val = x2.val; omega
  have e0 : x0 = 0 := by omega
  subst e0
  rw [e]
  show _ = value q k v kc vc b h x1 x2
  simp only [ld_rows, ld_ctxRows, ld_biasRows]
  exact head_apply _ _ _ _ _ _ x1 x2

set_option maxHeartbeats 4000000 in
/-- The block a grid point leaves. -/
theorem out_apply (q : Vec Ideal S8x64x64 .bf16) (k v : Fin 8 → Vec Ideal S8x64x64 .bf16) (kc vc : Vec Ideal S8x256x64 .bf16)
    (b : Vec Ideal S1x8x64x512 .f32) (h : Fin 8) (c d : Fin 64) :
    out0_20 q (k 0) (k 1) (k 2) (k 3) (k 4) (k 5) (k 6) (k 7) (v 0) (v 1) (v 2) (v 3) (v 4) (v 5) (v 6) (v 7) kc vc b (ix3 h c d)
      = value q k v kc vc b h c d := by
  unfold_out out0_20
  refine View.canon_apply_of_pieces (Val := Elt Ideal) (e := .bf16) (fun y : S8x64x64.Idx => value q k v kc vc b (y 0) (y 1) (y 2)) _ ?_ (ix3 h c d)
    (cover0_20 _ _ _ _ _ _ _ _ _)
  intro p hp
  simp only [List.mem_cons, List.not_mem_nil, or_false] at hp
  rcases hp with rfl | rfl | rfl | rfl | rfl | rfl | rfl | rfl
  · exact piece_eq q k v kc vc b 7
  · exact piece_eq q k v kc vc b 6
  · exact piece_eq q k v kc vc b 5
  · exact piece_eq q k v kc vc b 4
  · exact piece_eq q k v kc vc b 3
  · exact piece_eq q k v kc vc b 2
  · exact piece_eq q k v kc vc b 1
  · exact piece_eq q k v kc vc b 0

end Cert.Block

end
-- ==== Proof.Rows.lean ====
/- Which parts of the arrays a grid point reads.

   Point `t` is row `t` of the 256 rows of queries. It reads that row, the eight rows of keys and of values from
   `first t` on, the context whole, and the bias of its place `t - first t` among its eight rows. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Rows

open Idealize.ShloMosaic Idealize.ShloMosaic.TcCoe Cert.KernelIdeal Cert.KernelIdeal.Gen

/-- The first of the eight rows of row `t`'s neighbourhood: four above it, inside the image. -/
def first (t : ℕ) : ℕ := min (t - 4) 248

theorem first_add_lt (t : ℕ) (i : Fin 8) : first t + i.val < 256 := by unfold first; omega

theorem sub_first_lt (t : Fin 256) : t.val - first t.val < 8 := by unfold first; omega

/-- Row `r` of an array of eight heads and 256 rows of 64. -/
def row (x : FVec Ideal S8x16384x64 .bf16) (r : Fin 256) : Vec Ideal S8x64x64 .bf16 :=
  fun j => x (ix3 (j 0) ⟨r.val * 64 + (j 1).val, by have h : (j 1).val < 64 := (j 1).isLt; have := r.isLt; omega⟩ (j 2))

/-- Place `p` of an array of eight places' biases. -/
def place (x : FVec Ideal S8x8x64x512 .f32) (p : Fin 8) : Vec Ideal S1x8x64x512 .f32 :=
  fun j => x (ix4 p (j 1) (j 2) (j 3))

/-- A read whose index is a block's is the row of that block. -/
theorem row_of (x : FVec Ideal S8x16384x64 .bf16) (r : Fin 256) (f : S8x64x64.Idx → S8x16384x64.Idx)
    (h : ∀ j a, (f j a).val = ![0, r.val, 0] a * S8x64x64.size a + (j (a.cast rfl)).val) : (fun j => x (f j)) = row x r := by
  funext j
  refine congrArg x (funext fun a => Fin.ext ((h j a).trans ?_))
  match a with
  | ⟨0, _⟩ => exact (congrArg (· + _) (Nat.zero_mul _)).trans (Nat.zero_add _)
  | ⟨1, _⟩ => rfl
  | ⟨2, _⟩ => exact (congrArg (· + _) (Nat.zero_mul _)).trans (Nat.zero_add _)

/-- A read whose index is the one block's is the array. -/
theorem whole_of (x : FVec Ideal S8x256x64 .bf16) (f : S8x256x64.Idx → S8x256x64.Idx)
    (h : ∀ j a, (f j a).val = ![0, 0, 0] a * S8x256x64.size a + (j (a.cast rfl)).val) : (fun j => x (f j)) = x := by
  funext j
  refine congrArg x (funext fun a => Fin.ext ((h j a).trans ?_))
  match a with
  | ⟨0, _⟩ => exact (congrArg (· + _) (Nat.zero_mul _)).trans (Nat.zero_add _)
  | ⟨1, _⟩ => exact (congrArg (· + _) (Nat.zero_mul _)).trans (Nat.zero_add _)
  | ⟨2, _⟩ => exact (congrArg (· + _) (Nat.zero_mul _)).trans (Nat.zero_add _)

/-- A read whose index is a block's is the place of that block. -/
theorem place_of (x : FVec Ideal S8x8x64x512 .f32) (p : Fin 8) (f : S1x8x64x512.Idx → S8x8x64x512.Idx)
    (h : ∀ j a, (f j a).val = ![p.val, 0, 0, 0] a * S1x8x64x512.size a + (j (a.cast rfl)).val) : (fun j => x (f j)) = place x p := by
  funext j
  refine congrArg x (funext fun a => Fin.ext ((h j a).trans ?_))
  match a with
  | ⟨0, _⟩ =>
    have h0 : (j 0).val = 0 := by have : (j 0).val < 1 := (j 0).isLt; omega
    exact (congrArg₂ (· + ·) (Nat.mul_one _) h0).trans (Nat.add_zero _)
  | ⟨1, _⟩ => exact (congrArg (· + _) (Nat.zero_mul _)).trans (Nat.zero_add _)
  | ⟨2, _⟩ => exact (congrArg (· + _) (Nat.zero_mul _)).trans (Nat.zero_add _)
  | ⟨3, _⟩ => exact (congrArg (· + _) (Nat.zero_mul _)).trans (Nat.zero_add _)

variable (m : (ℓ : Loc nD τ sig) → Buf (Elt Ideal) ℓ)

theorem idx_q : ∀ t : Fin grid0.N, win0_0.index t = ![0, t.val, 0] ∧ win0_20.index t = ![0, t.val, 0] := by decide +kernel

theorem idx_k : ∀ t : Fin grid0.N, win0_1.index t = ![0, first t.val, 0] ∧ win0_2.index t = ![0, first t.val + 1, 0]
    ∧ win0_3.index t = ![0, first t.val + 2, 0] ∧ win0_4.index t = ![0, first t.val + 3, 0]
    ∧ win0_5.index t = ![0, first t.val + 4, 0] ∧ win0_6.index t = ![0, first t.val + 5, 0]
    ∧ win0_7.index t = ![0, first t.val + 6, 0] ∧ win0_8.index t = ![0, first t.val + 7, 0] := by decide +kernel

theorem idx_v : ∀ t : Fin grid0.N, win0_9.index t = ![0, first t.val, 0] ∧ win0_10.index t = ![0, first t.val + 1, 0]
    ∧ win0_11.index t = ![0, first t.val + 2, 0] ∧ win0_12.index t = ![0, first t.val + 3, 0]
    ∧ win0_13.index t = ![0, first t.val + 4, 0] ∧ win0_14.index t = ![0, first t.val + 5, 0]
    ∧ win0_15.index t = ![0, first t.val + 6, 0] ∧ win0_16.index t = ![0, first t.val + 7, 0] := by decide +kernel

theorem idx_rest : ∀ t : Fin grid0.N, win0_17.index t = ![0, 0, 0] ∧ win0_18.index t = ![0, 0, 0]
    ∧ win0_19.index t = ![t.val - first t.val, 0, 0, 0] := by decide +kernel

/-- A point's query block is its row. -/
theorem iblk_q (c : Dev nD) (t : Fin cfg0.N) : iblk m c 0 t = row (V m c main_arg0) t := by
  refine row_of _ _ _ fun j a => ?_
  blk_simp [iblk, (idx_q t).1]
  rfl

set_option maxHeartbeats 2000000 in
/-- The eight key blocks of a point are the eight rows of its neighbourhood. -/
theorem iblk_k (c : Dev nD) (t : Fin cfg0.N) :
    (iblk m c 1 t = row (V m c main_arg1) ⟨_, first_add_lt t.val 0⟩ ∧ iblk m c 2 t = row (V m c main_arg1) ⟨_, first_add_lt t.val 1⟩
    ∧ iblk m c 3 t = row (V m c main_arg1) ⟨_, first_add_lt t.val 2⟩ ∧ iblk m c 4 t = row (V m c main_arg1) ⟨_, first_add_lt t.val 3⟩)
    ∧ iblk m c 5 t = row (V m c main_arg1) ⟨_, first_add_lt t.val 4⟩ ∧ iblk m c 6 t = row (V m c main_arg1) ⟨_, first_add_lt t.val 5⟩
    ∧ iblk m c 7 t = row (V m c main_arg1) ⟨_, first_add_lt t.val 6⟩ ∧ iblk m c 8 t = row (V m c main_arg1) ⟨_, first_add_lt t.val 7⟩ := by
  obtain ⟨e0, e1, e2, e3, e4, e5, e6, e7⟩ := idx_k t
  refine ⟨⟨?_, ?_, ?_, ?_⟩, ?_, ?_, ?_, ?_⟩ <;>
    refine row_of _ _ _ fun j a => ?_ <;> blk_simp [iblk, e0, e1, e2, e3, e4, e5, e6, e7] <;> rfl

set_option maxHeartbeats 2000000 in
/-- So are its eight value blocks. -/
theorem iblk_v (c : Dev nD) (t : Fin cfg0.N) :
    (iblk m c 9 t = row (V m c main_arg2) ⟨_, first_add_lt t.val 0⟩ ∧ iblk m c 10 t = row (V m c main_arg2) ⟨_, first_add_lt t.val 1⟩
    ∧ iblk m c 11 t = row (V m c main_arg2) ⟨_, first_add_lt t.val 2⟩ ∧ iblk m c 12 t = row (V m c main_arg2) ⟨_, first_add_lt t.val 3⟩)
    ∧ iblk m c 13 t = row (V m c main_arg2) ⟨_, first_add_lt t.val 4⟩ ∧ iblk m c 14 t = row (V m c main_arg2) ⟨_, first_add_lt t.val 5⟩
    ∧ iblk m c 15 t = row (V m c main_arg2) ⟨_, first_add_lt t.val 6⟩ ∧ iblk m c 16 t = row (V m c main_arg2) ⟨_, first_add_lt t.val 7⟩ := by
  obtain ⟨e0, e1, e2, e3, e4, e5, e6, e7⟩ := idx_v t
  refine ⟨⟨?_, ?_, ?_, ?_⟩, ?_, ?_, ?_, ?_⟩ <;>
    refine row_of _ _ _ fun j a => ?_ <;> blk_simp [iblk, e0, e1, e2, e3, e4, e5, e6, e7] <;> rfl

set_option maxHeartbeats 2000000 in
/-- The context is read whole. -/
theorem iblk_ctx (c : Dev nD) (t : Fin cfg0.N) :
    iblk m c 17 t = V m c main_arg3 ∧ iblk m c 18 t = V m c main_arg4 := by
  obtain ⟨e1, e2, -⟩ := idx_rest t
  constructor
  · refine whole_of (V m c main_arg3) ((cfg0.win 17).blk t).view.emb fun j a => ?_
    blk_simp [iblk, e1]
    rfl
  · refine whole_of (V m c main_arg4) ((cfg0.win 18).blk t).view.emb fun j a => ?_
    blk_simp [iblk, e2]
    rfl

/-- The bias is that of the row's place among the eight. -/
theorem iblk_bias (c : Dev nD) (t : Fin cfg0.N) :
    iblk m c 19 t = place (V m c main_v151) ⟨_, sub_first_lt t⟩ := by
  refine place_of (V m c main_v151) ⟨_, sub_first_lt t⟩ ((cfg0.win 19).blk t).view.emb fun j a => ?_
  blk_simp [iblk, (idx_rest t).2.2]
  rfl

end Cert.Rows

end
-- ==== Proof.Gather.lean ====
/- An array gathered at index words, read at one index of the result.

   On an axis that the words do not move the result's own coordinate is read; on the axis they move, the word. -/
module

public import proofs.«01_k».proof.Proof.Gen.KernelIdeal.Value
public import proofs.«01_k».proof.Proof.Gen.ReferenceIdeal.Read
public import Idealize.ShloMosaic.Lib.Pointwise
public import Idealize.ShloMosaic.Lib.StableHlo.Predicate

@[expose] public section

set_option maxRecDepth 16384

noncomputable section

namespace Cert.Gather

open Idealize.ShloMosaic Idealize.ShloMosaic.TcCoe

variable {α : Type} {s si t : Shape} {w : ℕ} (d : GatherDims s si t)

/-- A gather reads the operand at the index whose coordinates it computes. -/
theorem gather_eq (x : s.Idx → α) (idx : IVec si w) (y : t.Idx) (k : s.Idx)
    (hk : ∀ a, d.start y idx a + d.batchCoord y a + d.offCoord y a = (k a).val) : Host.gather d x idx y = x k := by
  unfold Host.gather
  exact congrArg x (funext fun a => Fin.ext (hk a))

/-- An axis the words do not move keeps the result's coordinate. -/
theorem kept_axis (idx : IVec si w) (y : t.Idx) (a : Fin s.rank) (b : Fin t.rank) (ha : a ∉ d.startIndexMap)
    (hb : a ∉ d.operandBatchingDims) (hk : a ∈ d.sKept) (h : d.offsetDims[d.sKept.idxOf a]? = some b) :
    d.start y idx a + d.batchCoord y a + d.offCoord y a = (y b).val := by
  obtain ⟨h1, h2⟩ := List.getElem?_eq_some_iff.1 h
  unfold GatherDims.start GatherDims.offCoord
  rw [dif_neg ha, d.batchCoord_eq_zero _ _ hb, dif_pos hk, h2]
  omega

/-- The axis the words move has the word, which lies in range. -/
theorem moved_axis (idx : IVec si 32) (y : t.Idx) (a : Fin s.rank) (j : si.Idx) (n : ℕ) (ha : d.startIndexMap = [a])
    (hb : a ∉ d.operandBatchingDims) (hk : a ∉ d.sKept)
    (hj : ∀ b : Fin si.rank, (b.val = d.indexVectorDim ∧ (j b).val = 0)
      ∨ ∃ e : Fin t.rank, b.val ≠ d.indexVectorDim ∧ d.batchDims[d.siKept.idxOf b]? = some e ∧ (j b).val = (y e).val)
    (hn : idx j = BitVec.ofNat 32 n) (h31 : n < 2 ^ 31) (hle : n ≤ s.size a - d.sliceSizes a) :
    d.start y idx a + d.batchCoord y a + d.offCoord y a = n := by
  have hm : a ∈ d.startIndexMap := by rw [ha]; exact List.mem_singleton.2 rfl
  rw [d.batchCoord_eq_zero _ _ hb, d.offCoord_eq_zero _ _ hk]
  unfold GatherDims.start
  rw [dif_pos hm]
  have hsi : d.siIdx y ⟨d.startIndexMap.idxOf a, List.idxOf_lt_length_iff.2 hm⟩ = j := by
    funext b
    refine Fin.ext ?_
    unfold GatherDims.siIdx
    rcases hj b with ⟨h1, h2⟩ | ⟨e, h1, h2, h3⟩
    · rw [dif_pos h1, h2]
      show List.idxOf a d.startIndexMap = 0
      rw [ha]; simp
    · rw [dif_neg h1]
      obtain ⟨h4, h5⟩ := List.getElem?_eq_some_iff.1 h2
      unfold GatherDims.siCoord
      rw [h3, Fin.val_cast, h5]
  rw [hsi, hn, StableHlo.Predicate.toInt_ofNat_small _ h31, Int.toNat_natCast]
  omega

/-- The kernel's biases, gathered by distance in columns. -/
theorem kernel_columns (x : KernelIdeal.S8x15x31.Idx → EReal) (idx : IVec KernelIdeal.S64x64x1 32) (h : Fin 8) (i : Fin 15) (c k : Fin 64)
    (n : Fin 31) (hn : idx (ix3 c k 0) = BitVec.ofNat 32 n.val) :
    Host.gather KernelIdeal.gather_S8x15x31_S64x64x1_S8x15x64x64_01_2_n_n_2_2_8151 x idx (ix4 h i c k) = x (ix3 h i n) := by
  refine gather_eq KernelIdeal.gather_S8x15x31_S64x64x1_S8x15x64x64_01_2_n_n_2_2_8151 _ _ _ _ fun a => ?_
  match (a : Fin 3) with
  | 0 => refine kept_axis KernelIdeal.gather_S8x15x31_S64x64x1_S8x15x64x64_01_2_n_n_2_2_8151 idx (ix4 h i c k) 0 0 ?_ ?_ ?_ ?_ <;> decide
  | 1 => refine kept_axis KernelIdeal.gather_S8x15x31_S64x64x1_S8x15x64x64_01_2_n_n_2_2_8151 idx (ix4 h i c k) 1 1 ?_ ?_ ?_ ?_ <;> decide
  | 2 =>
    refine moved_axis KernelIdeal.gather_S8x15x31_S64x64x1_S8x15x64x64_01_2_n_n_2_2_8151 idx (ix4 h i c k) 2 (ix3 c k 0) n.val ?_ ?_ ?_ (fun b => ?_) hn (by omega) (by
      show n.val ≤ 31 - 1; omega)
    · decide
    · decide
    · decide
    match (b : Fin 3) with
    | 0 => exact .inr ⟨2, by decide, by decide, rfl⟩
    | 1 => exact .inr ⟨3, by decide, by decide, rfl⟩
    | 2 => exact .inl ⟨rfl, rfl⟩

/-- The reference's biases, gathered by distance in columns. -/
theorem reference_columns (x : ReferenceIdeal.S8x15x31.Idx → EReal) (idx : IVec ReferenceIdeal.S64x16x1 32) (h : Fin 8) (i : Fin 15) (c : Fin 64)
    (k : Fin 16) (n : Fin 31) (hn : idx (ix3 c k 0) = BitVec.ofNat 32 n.val) :
    Host.gather ReferenceIdeal.gather_S8x15x31_S64x16x1_S8x15x64x16_01_2_n_n_2_2_8151 x idx (ix4 h i c k) = x (ix3 h i n) := by
  refine gather_eq ReferenceIdeal.gather_S8x15x31_S64x16x1_S8x15x64x16_01_2_n_n_2_2_8151 _ _ _ _ fun a => ?_
  match (a : Fin 3) with
  | 0 => refine kept_axis ReferenceIdeal.gather_S8x15x31_S64x16x1_S8x15x64x16_01_2_n_n_2_2_8151 idx (ix4 h i c k) 0 0 ?_ ?_ ?_ ?_ <;> decide
  | 1 => refine kept_axis ReferenceIdeal.gather_S8x15x31_S64x16x1_S8x15x64x16_01_2_n_n_2_2_8151 idx (ix4 h i c k) 1 1 ?_ ?_ ?_ ?_ <;> decide
  | 2 =>
    refine moved_axis ReferenceIdeal.gather_S8x15x31_S64x16x1_S8x15x64x16_01_2_n_n_2_2_8151 idx (ix4 h i c k) 2 (ix3 c k 0) n.val ?_ ?_ ?_ (fun b => ?_) hn (by omega) (by
      show n.val ≤ 31 - 1; omega)
    · decide
    · decide
    · decide
    match (b : Fin 3) with
    | 0 => exact .inr ⟨2, by decide, by decide, rfl⟩
    | 1 => exact .inr ⟨3, by decide, by decide, rfl⟩
    | 2 => exact .inl ⟨rfl, rfl⟩

/-- The reference's keys (or values) of a query's neighbourhood, gathered by place. -/
theorem reference_keys (x : ReferenceIdeal.S16384x8x64.Idx → EReal) (idx : IVec ReferenceIdeal.S256x64x128x1 32) (r : Fin 256) (c : Fin 64)
    (k : Fin 128) (h : Fin 8) (e : Fin 64) (n : Fin 16384) (hn : idx (ix4 r c k 0) = BitVec.ofNat 32 n.val) :
    Host.gather ReferenceIdeal.gather_S16384x8x64_S256x64x128x1_S256x64x128x8x64_34_0_n_n_0_3_1864 x idx (ix5 r c k h e) = x (ix3 n h e) := by
  refine gather_eq ReferenceIdeal.gather_S16384x8x64_S256x64x128x1_S256x64x128x8x64_34_0_n_n_0_3_1864 _ _ _ _ fun a => ?_
  match (a : Fin 3) with
  | 0 =>
    refine moved_axis ReferenceIdeal.gather_S16384x8x64_S256x64x128x1_S256x64x128x8x64_34_0_n_n_0_3_1864 idx (ix5 r c k h e) 0 (ix4 r c k 0) n.val ?_ ?_ ?_ (fun b => ?_) hn (by omega) (by
      show n.val ≤ 16384 - 1; omega)
    · decide
    · decide
    · decide
    match (b : Fin 4) with
    | 0 => exact .inr ⟨0, by decide, by decide, rfl⟩
    | 1 => exact .inr ⟨1, by decide, by decide, rfl⟩
    | 2 => exact .inr ⟨2, by decide, by decide, rfl⟩
    | 3 => exact .inl ⟨rfl, rfl⟩
  | 1 => refine kept_axis ReferenceIdeal.gather_S16384x8x64_S256x64x128x1_S256x64x128x8x64_34_0_n_n_0_3_1864 idx (ix5 r c k h e) 1 3 ?_ ?_ ?_ ?_ <;> decide
  | 2 => refine kept_axis ReferenceIdeal.gather_S16384x8x64_S256x64x128x1_S256x64x128x8x64_34_0_n_n_0_3_1864 idx (ix5 r c k h e) 2 4 ?_ ?_ ?_ ?_ <;> decide

/-- The reference's biases, gathered by distance in rows. -/
theorem reference_rows (x : ReferenceIdeal.S8x15x64x16.Idx → EReal) (idx : IVec ReferenceIdeal.S256x8x1 32) (h : Fin 8) (r : Fin 256) (i : Fin 8)
    (c : Fin 64) (k : Fin 16) (n : Fin 15) (hn : idx (ix3 r i 0) = BitVec.ofNat 32 n.val) :
    Host.gather ReferenceIdeal.gather_S8x15x64x16_S256x8x1_S8x256x8x64x16_034_1_n_n_1_2_816416 x idx (ix5 h r i c k) = x (ix4 h n c k) := by
  refine gather_eq ReferenceIdeal.gather_S8x15x64x16_S256x8x1_S8x256x8x64x16_034_1_n_n_1_2_816416 _ _ _ _ fun a => ?_
  match (a : Fin 4) with
  | 0 => refine kept_axis ReferenceIdeal.gather_S8x15x64x16_S256x8x1_S8x256x8x64x16_034_1_n_n_1_2_816416 idx (ix5 h r i c k) 0 0 ?_ ?_ ?_ ?_ <;> decide
  | 1 =>
    refine moved_axis ReferenceIdeal.gather_S8x15x64x16_S256x8x1_S8x256x8x64x16_034_1_n_n_1_2_816416 idx (ix5 h r i c k) 1 (ix3 r i 0) n.val ?_ ?_ ?_ (fun b => ?_) hn (by omega) (by
      show n.val ≤ 15 - 1; omega)
    · decide
    · decide
    · decide
    match (b : Fin 3) with
    | 0 => exact .inr ⟨1, by decide, by decide, rfl⟩
    | 1 => exact .inr ⟨2, by decide, by decide, rfl⟩
    | 2 => exact .inl ⟨rfl, rfl⟩
  | 2 => refine kept_axis ReferenceIdeal.gather_S8x15x64x16_S256x8x1_S8x256x8x64x16_034_1_n_n_1_2_816416 idx (ix5 h r i c k) 2 3 ?_ ?_ ?_ ?_ <;> decide
  | 3 => refine kept_axis ReferenceIdeal.gather_S8x15x64x16_S256x8x1_S8x256x8x64x16_034_1_n_n_1_2_816416 idx (ix5 h r i c k) 3 4 ?_ ?_ ?_ ?_ <;> decide

end Cert.Gather

end
-- ==== Proof.Table.lean ====
/- The table of biases that the host prepares.

   For each of the eight places of a row among the eight rows of its neighbourhood, the table gives every query and
   every key of the eight rows the learned bias of their distance, and −∞ where the key's column lies outside the
   query's sixteen. -/
module

public import proofs.«01_k».proof.Proof.Gen.KernelIdeal.Value
public import proofs.«01_k».proof.Proof.Gather
public import Idealize.ShloMosaic.Lib.Pointwise
public import Idealize.ShloMosaic.Lib.StableHlo.ReadAt

@[expose] public section

set_option maxRecDepth 16384

noncomputable section

namespace Cert.Table

open Idealize.ShloMosaic Idealize.ShloMosaic.TcCoe Cert.KernelIdeal Cert.KernelIdeal.Gen

/-- Eight arrays joined one after another are the family's join. -/
theorem join_eight {α : Type} {s t : Shape} {a : Fin t.rank} {x0 x1 x2 x3 x4 x5 x6 x7 : s.Idx → α}
    {h : Shape.Concatenates ([(⟨s, x0⟩ : (s : Shape) × (s.Idx → α)), ⟨s, x1⟩, ⟨s, x2⟩, ⟨s, x3⟩, ⟨s, x4⟩, ⟨s, x5⟩, ⟨s, x6⟩, ⟨s, x7⟩].map (·.1)) t a}
    (f : Fin 8 → s.Idx → α) (h0 : x0 = f 0) (h1 : x1 = f 1) (h2 : x2 = f 2) (h3 : x3 = f 3) (h4 : x4 = f 4) (h5 : x5 = f 5)
    (h6 : x6 = f 6) (h7 : x7 = f 7) :
    concatenate t a [(⟨s, x0⟩ : (s : Shape) × (s.Idx → α)), ⟨s, x1⟩, ⟨s, x2⟩, ⟨s, x3⟩, ⟨s, x4⟩, ⟨s, x5⟩, ⟨s, x6⟩, ⟨s, x7⟩] h
      = concatenate t a (List.ofFn fun n : Fin 8 => (⟨s, f n⟩ : (s : Shape) × (s.Idx → α))) h := by
  subst h0 h1 h2 h3 h4 h5 h6 h7
  rfl

/-- The biases of one distance in rows. -/
def plane (x : FVec Ideal S8x15x64x64 .f32) (n : Fin 15) : FVec Ideal S8x64x64 .f32 := fun j => x (ix4 (j 0) n (j 1) (j 2))

theorem plane_of (x : FVec Ideal S8x15x64x64 .f32) (n : Fin 15) (h : S8x15x64x64.Slices ![0, n.val, 0, 0] S8x1x64x64)
    (h' : S8x1x64x64.ShapeCasts S8x64x64) :
    shapeCast S8x64x64 (extractStridedSlice S8x1x64x64 ![0, n.val, 0, 0] x h) h' = plane x n := by
  funext j
  idx_vars j
  pointwise [plane]

/-- The learned biases by distance in rows and by pair of columns, −∞ where the key's column is not the query's. -/
def masked (b : FVec Ideal S8x15x31 .f32) : FVec Ideal S8x15x64x64 .f32 :=
  select
    (broadcastInDim S8x15x64x64 ![0, 1, 2, 3] bcast_S1x1x64x64_S8x15x64x64_0_1_2_3
      (broadcastInDim S1x1x64x64 ![2, 3] bcast_S64x64_S1x1x64x64_2_3 fun i => lit1 (S64x64.rowMajor i)))
    (Host.gather gather_S8x15x31_S64x64x1_S8x15x64x64_01_2_n_n_2_2_8151 b
      (broadcastInDim S64x64x1 ![0, 1] bcast_S64x64_S64x64x1_0_1
        (select (constantI S64x64 1 0#1)
          (addi (fun i => lit0 (S64x64.rowMajor i)) (broadcastInDim S64x64 ![] bcast_S_S64x64 (constantI S_ 32 31#32)))
          fun i => lit0 (S64x64.rowMajor i))))
    (broadcastInDim S8x15x64x64 ![] bcast_S_S8x15x64x64 (constant (F := Ideal) S_ FTy.f32 4286578688#32))

/-- The first of the sixteen columns of column `c`'s neighbourhood. -/
def firstCol (c : ℕ) : ℕ := min (c - 8) 48

theorem lit_in : ∀ c k : Fin 64, firstCol c.val ≤ k.val ∧ k.val < firstCol c.val + 16 →
    lit1 (S64x64.rowMajor (ix2 c k)) = 1#1 ∧ lit0 (S64x64.rowMajor (ix2 c k)) = BitVec.ofNat 32 (k.val + 15 - c.val)
      ∧ k.val + 15 - c.val < 31 := by
  decide +kernel

theorem lit_out : ∀ c k : Fin 64, ¬ (firstCol c.val ≤ k.val ∧ k.val < firstCol c.val + 16) →
    lit1 (S64x64.rowMajor (ix2 c k)) = 0#1 := by
  decide +kernel

theorem masked_in (b : FVec Ideal S8x15x31 .f32) (h : Fin 8) (i : Fin 15) (c k : Fin 64)
    (hk : firstCol c.val ≤ k.val ∧ k.val < firstCol c.val + 16) :
    masked b (ix4 h i c k) = b (ix3 h i ⟨k.val + 15 - c.val, (lit_in c k hk).2.2⟩) := by
  obtain ⟨h1, h2, h3⟩ := lit_in c k hk
  unfold masked
  pointwise
  rw [Gather.kernel_columns _ _ _ _ _ _ ⟨_, h3⟩]
  · exact congrArg (fun z => Scalar.select z _ _) h1
  · pointwise
    exact h2

theorem Ideal_bot : Ideal.ofBits .f32 4286578688#32 = ⊥ := by simp [Ideal.ofBits, Ideal.ieee]

theorem masked_out (b : FVec Ideal S8x15x31 .f32) (h : Fin 8) (i : Fin 15) (c k : Fin 64)
    (hk : ¬ (firstCol c.val ≤ k.val ∧ k.val < firstCol c.val + 16)) : masked b (ix4 h i c k) = ⊥ := by
  have h1 := lit_out c k hk
  unfold masked
  pointwise
  exact (congrArg (fun z => Scalar.select z _ _) h1).trans Ideal_bot

variable (m : (ℓ : Loc nD τ sig) → Buf (Elt Ideal) ℓ)

theorem V_masked (c : Dev nD) : V m c main_v6 = masked (m ((c : Thread nD τ).loc main_arg5)) := by
  after_reads_simp
  rfl

/-- The distance in rows of row `i` of a neighbourhood from its query, which is row `d` of it. -/
def dist (d i : Fin 8) : Fin 15 := ⟨i.val + 7 - d.val, by omega⟩

/-- The biases of a query's row at place `d`: its eight rows side by side. -/
def variant (x : FVec Ideal S8x15x64x64 .f32) (d : Fin 8) : FVec Ideal S8x64x512 .f32 :=
  concatenate S8x64x512 2 (List.ofFn fun i : Fin 8 => (⟨S8x64x64, plane x (dist d i)⟩ : (s : Shape) × (s.Idx → Ideal .f32)))
    concatenates_S8x64x64_S8x64x64_S8x64x64_S8x64x64_S8x64x64_S8x64x64_S8x64x64_S8x64x64_S8x64x512_d2

/-- The same as one of eight places. -/
def slab (x : FVec Ideal S8x15x64x64 .f32) (d : Fin 8) : FVec Ideal S1x8x64x512 .f32 :=
  broadcastInDim S1x8x64x512 ![1, 2, 3] bcast_S8x64x512_S1x8x64x512_1_2_3 (variant x d)

/-- The eight places together. -/
def stacked (x : FVec Ideal S8x15x64x64 .f32) : FVec Ideal S8x8x64x512 .f32 :=
  concatenate S8x8x64x512 0 (List.ofFn fun d : Fin 8 =>
      (⟨S1x8x64x512, slab x d⟩ : (s : Shape) × (s.Idx → Ideal .f32)))
    concatenates_S1x8x64x512_S1x8x64x512_S1x8x64x512_S1x8x64x512_S1x8x64x512_S1x8x64x512_S1x8x64x512_S1x8x64x512_S8x8x64x512_d0

theorem variant_apply (x : FVec Ideal S8x15x64x64 .f32) (d h : Fin 8) (c : Fin 64) (n : Fin 512) :
    variant x d (ix3 h c n) = x (ix4 h (dist d ⟨n.val / 64, by omega⟩) c ⟨n.val % 64, by omega⟩) := by
  refine (concatenate_ofFn_apply (t := S8x64x512) (s₁ := S8x64x64) 2 (fun i => plane x (dist d i)) _ rfl 64 rfl (ix3 h c n)
    ⟨n.val / 64, by omega⟩ rfl (ix3 h c ⟨n.val % 64, by omega⟩) rfl fun b hb => ?_).trans rfl
  match (b : Fin 3) with
  | 0 => rfl
  | 1 => rfl
  | 2 => exact absurd rfl hb

theorem stacked_apply (x : FVec Ideal S8x15x64x64 .f32) (d h : Fin 8) (c : Fin 64) (n : Fin 512) :
    stacked x (ix4 d h c n) = x (ix4 h (dist d ⟨n.val / 64, by omega⟩) c ⟨n.val % 64, by omega⟩) := by
  have h1 : ((ix4 d h c n : S8x8x64x512.Idx) 0).val / 1 = d.val := Nat.div_one _
  have h2 : ((ix4 0 h c n : S1x8x64x512.Idx) 0).val = ((ix4 d h c n : S8x8x64x512.Idx) 0).val % 1 := (Nat.mod_one _).symm
  refine (concatenate_ofFn_apply (t := S8x8x64x512) (s₁ := S1x8x64x512) 0 (slab x) _ rfl 1 rfl (ix4 d h c n)
    d h1 (ix4 0 h c n) h2 fun b hb => ?_).trans ?_
  · match (b : Fin 4) with
    | 0 => exact absurd rfl hb
    | 1 => rfl
    | 2 => rfl
    | 3 => rfl
  · rw [← variant_apply x d h c n, slab]
    pointwise

end Cert.Table

end
-- ==== Proof.Attention.lean ====
/- The attention of one query, and that a grid point computes it.

   A query at row `r` and column `c` sees 8 rows of 16 columns round it and the 256 keys of the context. The kernel runs
   over all 64 columns of the 8 rows and gives the scores outside the 16 columns the bias −∞; those have weight 0. -/
module

public import proofs.«01_k».proof.Proof.Block
public import proofs.«01_k».proof.Proof.Rows
public import proofs.«01_k».proof.Proof.Table

@[expose] public section

set_option maxRecDepth 16384

noncomputable section

namespace Cert.Attention

open Idealize.ShloMosaic Idealize.ShloMosaic.TcCoe Cert.KernelIdeal Cert.KernelIdeal.Gen
open Cert.Softmax Cert.Head Cert.Rows Cert.Table

/-- The row and the column of the `n`th key of a query's neighbourhood. -/
def keyRow (r : Fin 256) (n : Fin 128) : Fin 256 := ⟨first r.val + n.val / 16, by unfold first; omega⟩
def keyCol (c : Fin 64) (n : Fin 128) : Fin 64 := ⟨firstCol c.val + n.val % 16, by unfold firstCol; omega⟩

/-- Where the query or the key at a row and a column stands in its array. -/
def at' (r : Fin 256) (c : Fin 64) : Fin 16384 := ⟨r.val * 64 + c.val, by omega⟩

/-- The bias of the `n`th key: by its distance in rows and in columns. -/
def rowDist (r : Fin 256) (n : Fin 128) : Fin 15 := ⟨(keyRow r n).val + 7 - r.val, by show first r.val + n.val / 16 + 7 - r.val < 15; unfold first; omega⟩
def colDist (c : Fin 64) (n : Fin 128) : Fin 31 := ⟨(keyCol c n).val + 15 - c.val, by show firstCol c.val + n.val % 16 + 15 - c.val < 31; unfold firstCol; omega⟩

def score (q k : FVec Ideal S8x16384x64 .bf16) (b : FVec Ideal S8x15x31 .f32) (h : Fin 8) (r : Fin 256) (c : Fin 64) (n : Fin 128) : EReal :=
  (∑ e : Fin 64, q (ix3 h (at' r c) e) * k (ix3 h (at' (keyRow r n) (keyCol c n)) e)) * scale + b (ix3 h (rowDist r n) (colDist c n))

def ctx (q : FVec Ideal S8x16384x64 .bf16) (kc : FVec Ideal S8x256x64 .bf16) (h : Fin 8) (r : Fin 256) (c : Fin 64) (n : Fin 256) : EReal :=
  (∑ e : Fin 64, q (ix3 h (at' r c) e) * kc (ix3 h n e)) * scale

/-- The values seen by a query, at one channel. -/
def seen (v : FVec Ideal S8x16384x64 .bf16) (h : Fin 8) (r : Fin 256) (c d : Fin 64) (n : Fin 128) : EReal :=
  v (ix3 h (at' (keyRow r n) (keyCol c n)) d)

/-- The attention of a query, at one head and channel. -/
def attention (q k v : FVec Ideal S8x16384x64 .bf16) (kc vc : FVec Ideal S8x256x64 .bf16) (b : FVec Ideal S8x15x31 .f32)
    (h : Fin 8) (r : Fin 256) (c d : Fin 64) : EReal :=
  divideLast (score q k b h r c) (seen v h r c d) (ctx q kc h r c) fun n => vc (ix3 h n d)

/-- Where the `n`th key of the neighbourhood stands among the 512 of the eight rows. -/
def spread (c : Fin 64) (n : Fin 128) : Fin 512 := ⟨n.val / 16 * 64 + (keyCol c n).val, by have := (keyCol c n).isLt; omega⟩

theorem spread_div (c : Fin 64) (n : Fin 128) : (spread c n).val / 64 = n.val / 16 := by
  have := (keyCol c n).isLt
  show (n.val / 16 * 64 + (keyCol c n).val) / 64 = _
  omega

theorem spread_mod (c : Fin 64) (n : Fin 128) : (spread c n).val % 64 = (keyCol c n).val := by
  have := (keyCol c n).isLt
  show (n.val / 16 * 64 + (keyCol c n).val) % 64 = _
  omega

theorem keyCol_in (c : Fin 64) (n : Fin 128) : firstCol c.val ≤ (keyCol c n).val ∧ (keyCol c n).val < firstCol c.val + 16 := by
  show firstCol c.val ≤ firstCol c.val + n.val % 16 ∧ _
  refine ⟨by omega, ?_⟩
  show firstCol c.val + n.val % 16 < _
  omega

theorem spread_in (c : Fin 64) (n : Fin 128) :
    firstCol c.val ≤ (spread c n).val % 64 ∧ (spread c n).val % 64 < firstCol c.val + 16 := by
  rw [spread_mod]
  exact keyCol_in c n

theorem spread_row_lt (c : Fin 64) (n : Fin 128) : (spread c n).val / 64 < 8 := by
  rw [spread_div]
  omega

theorem spread_injective (c : Fin 64) : Function.Injective (spread c) := by
  intro a b h
  have h1 := (spread_div c a).symm.trans ((congrArg (fun z : Fin 512 => z.val / 64) h).trans (spread_div c b))
  have h2 : firstCol c.val + a.val % 16 = firstCol c.val + b.val % 16 :=
    (spread_mod c a).symm.trans ((congrArg (fun z : Fin 512 => z.val % 64) h).trans (spread_mod c b))
  exact Fin.ext (by omega)

/-- Every key in the query's columns is one of the neighbourhood. -/
theorem mem_spread (c : Fin 64) (n : Fin 512) (h : firstCol c.val ≤ n.val % 64 ∧ n.val % 64 < firstCol c.val + 16) :
    n ∈ Set.range (spread c) := by
  refine ⟨⟨n.val / 64 * 16 + (n.val % 64 - firstCol c.val), by omega⟩, Fin.ext ?_⟩
  show (n.val / 64 * 16 + (n.val % 64 - firstCol c.val)) / 16 * 64 + (firstCol c.val + (n.val / 64 * 16 + (n.val % 64 - firstCol c.val)) % 16) = n.val
  omega

theorem spread_lt (t : Fin 256) (c : Fin 64) (n : Fin 128) :
    (first t.val + (spread c n).val / 64) * 64 + (spread c n).val % 64 < 16384 := by
  have := (keyRow t n).isLt
  have := (keyCol c n).isLt
  have h : first t.val + n.val / 16 = (keyRow t n).val := rfl
  rw [spread_div, spread_mod, h]
  omega

theorem spread_at (t : Fin 256) (c : Fin 64) (n : Fin 128) :
    (⟨(first t.val + (spread c n).val / 64) * 64 + (spread c n).val % 64, spread_lt t c n⟩ : Fin 16384) = at' (keyRow t n) (keyCol c n) := by
  refine Fin.ext ?_
  show (first t.val + (spread c n).val / 64) * 64 + (spread c n).val % 64 = (first t.val + n.val / 16) * 64 + (keyCol c n).val
  rw [spread_div, spread_mod]

theorem spread_col_lt (c : Fin 64) (n : Fin 128) : (spread c n).val % 64 + 15 - c.val < 31 := by
  rw [spread_mod]
  exact (colDist c n).isLt

theorem spread_dist (t : Fin 256) (c : Fin 64) (n : Fin 128) :
    (spread c n).val / 64 + 7 - (t.val - first t.val) = (rowDist t n).val := by
  show _ = first t.val + n.val / 16 + 7 - t.val
  rw [spread_div]
  unfold first
  omega

/-- The value of point `t`'s blocks is the attention of row `t`'s queries. -/
theorem value_eq (q k v : FVec Ideal S8x16384x64 .bf16) (kc vc : FVec Ideal S8x256x64 .bf16) (b : FVec Ideal S8x15x31 .f32)
    (t : Fin 256) (h : Fin 8) (c d : Fin 64) :
    Block.value (row q t) (fun i => row k ⟨_, first_add_lt t.val i⟩) (fun i => row v ⟨_, first_add_lt t.val i⟩) kc vc
        (place (stacked (masked b)) ⟨_, sub_first_lt t⟩) h c d
      = attention q k v kc vc b h t c d := by
  unfold Block.value attention
  refine divideLast_spread _ _ _ _ _ _ (spread c) (spread_injective c) (fun n => ?_) (fun n => ?_) fun n hn => ?_
  · show (∑ e : Fin 64, q (ix3 h _ e) * k (ix3 h ⟨(first t.val + (spread c n).val / 64) * 64 + (spread c n).val % 64, _⟩ e)) * scale
        + stacked (masked b) (ix4 _ h c (spread c n)) = _
    rw [stacked_apply, masked_in b h _ c _ (spread_in c n)]
    have hk : ∀ e, k (ix3 h ⟨(first t.val + (spread c n).val / 64) * 64 + (spread c n).val % 64, spread_lt t c n⟩ e)
        = k (ix3 h (at' (keyRow t n) (keyCol c n)) e) := fun e => by rw [spread_at]
    have hb : b (ix3 h (Table.dist ⟨t.val - first t.val, sub_first_lt t⟩ ⟨(spread c n).val / 64, spread_row_lt c n⟩) ⟨(spread c n).val % 64 + 15 - c.val, spread_col_lt c n⟩)
        = b (ix3 h (rowDist t n) (colDist c n)) := by
      rw [show Table.dist ⟨t.val - first t.val, sub_first_lt t⟩ ⟨(spread c n).val / 64, spread_row_lt c n⟩ = rowDist t n from Fin.ext (spread_dist t c n),
        show (⟨(spread c n).val % 64 + 15 - c.val, spread_col_lt c n⟩ : Fin 31) = colDist c n from Fin.ext (by
          show (spread c n).val % 64 + 15 - c.val = (keyCol c n).val + 15 - c.val
          rw [spread_mod])]
    exact congrArg₂ (· + ·) (congrArg (· * scale) (Finset.sum_congr rfl fun e _ => congrArg _ (hk e))) hb
  · show v (ix3 h ⟨(first t.val + (spread c n).val / 64) * 64 + (spread c n).val % 64, spread_lt t c n⟩ d) = _
    rw [spread_at]
    rfl
  · show _ + stacked (masked b) (ix4 _ h c n) = ⊥
    rw [stacked_apply, masked_out, EReal.add_bot]
    exact fun hc => hn (mem_spread c n hc)

end Cert.Attention

end
-- ==== Proof.TableRead.lean ====
/- What the launch finds in the table of biases: the eight places that the host computed. -/
module

public import proofs.«01_k».proof.Proof.Table

@[expose] public section

set_option maxRecDepth 16384

noncomputable section

namespace Cert.Table

open Idealize.ShloMosaic Idealize.ShloMosaic.TcCoe Cert.KernelIdeal Cert.KernelIdeal.Gen

theorem plane_at (x : FVec Ideal S8x15x64x64 .f32) (n : Fin 15) (k : ℕ) (hk : k = n.val) (h : S8x15x64x64.Slices ![0, k, 0, 0] S8x1x64x64)
    (h' : S8x1x64x64.ShapeCasts S8x64x64) : shapeCast S8x64x64 (extractStridedSlice S8x1x64x64 ![0, k, 0, 0] x h) h' = plane x n := by
  subst hk
  exact plane_of x n h h'

/-- A place of the table from its eight rows. -/
theorem slab_of (x : FVec Ideal S8x15x64x64 .f32) (d : Fin 8) {x0 x1 x2 x3 x4 x5 x6 x7 : S8x64x64.Idx → Ideal .f32}
    {h : Shape.Concatenates ([(⟨S8x64x64, x0⟩ : (s : Shape) × (s.Idx → Ideal .f32)), ⟨S8x64x64, x1⟩, ⟨S8x64x64, x2⟩, ⟨S8x64x64, x3⟩, ⟨S8x64x64, x4⟩, ⟨S8x64x64, x5⟩, ⟨S8x64x64, x6⟩, ⟨S8x64x64, x7⟩].map (·.1)) S8x64x512 2}
    (h0 : x0 = plane x (dist d 0)) (h1 : x1 = plane x (dist d 1)) (h2 : x2 = plane x (dist d 2)) (h3 : x3 = plane x (dist d 3)) (h4 : x4 = plane x (dist d 4)) (h5 : x5 = plane x (dist d 5)) (h6 : x6 = plane x (dist d 6)) (h7 : x7 = plane x (dist d 7)) :
    broadcastInDim S1x8x64x512 ![1, 2, 3] bcast_S8x64x512_S1x8x64x512_1_2_3 (concatenate S8x64x512 2 [(⟨S8x64x64, x0⟩ : (s : Shape) × (s.Idx → Ideal .f32)), ⟨S8x64x64, x1⟩, ⟨S8x64x64, x2⟩, ⟨S8x64x64, x3⟩, ⟨S8x64x64, x4⟩, ⟨S8x64x64, x5⟩, ⟨S8x64x64, x6⟩, ⟨S8x64x64, x7⟩] h) = slab x d := by
  rw [join_eight (s := S8x64x64) (fun i => plane x (dist d i)) h0 h1 h2 h3 h4 h5 h6 h7]
  rfl

set_option maxHeartbeats 2000000 in
/-- The operations after the mask stack its rows. -/
theorem after_mask (W : Valuation τ sig (Elt Ideal)) :
    StableHlo.after hostOps0_2 W (Proc.devRef .tc main_v151) = stacked (W (Proc.devRef .tc main_v6)) := by
  after_reads_simp
  dsimp only [Matrix.cons_val]
  refine join_eight (s := S1x8x64x512) (slab (W (Proc.devRef .tc main_v6))) ?_ ?_ ?_ ?_ ?_ ?_ ?_ ?_
  all_goals
    after_reads_simp
    dsimp only [Matrix.cons_val]
    refine slab_of _ _ ?_ ?_ ?_ ?_ ?_ ?_ ?_ ?_
  all_goals
    after_reads_simp
    refine plane_at (W (Proc.devRef .tc main_v6)) _ _ ?_ _ _
    rfl

variable (m : (ℓ : Loc nD τ sig) → Buf (Elt Ideal) ℓ)

/-- The table that the launch reads. -/
theorem V_table (c : Dev nD) : V m c main_v151 = stacked (masked (m ((c : Thread nD τ).loc main_arg5))) := by
  have e : V m c main_v151 = StableHlo.after hostOps0_2 (StableHlo.after (hostOps0 ++ hostOps0_1) fun b => m (c, b)) (Proc.devRef .tc main_v151) := by
    rw [← StableHlo.after_append]
    rfl
  rw [e, after_mask]
  refine congrArg stacked ?_
  after_reads_simp
  rfl

end Cert.Table

end
-- ==== Proof.Array.lean ====
/- The array the kernel leaves: the attention of every query. -/
module

public import proofs.«01_k».proof.Proof.Attention
public import proofs.«01_k».proof.Proof.TableRead
public import proofs.«01_k».proof.Proof.Gen.KernelIdeal.Value

@[expose] public section

set_option maxRecDepth 16384

noncomputable section

namespace Cert.Array

open Idealize.ShloMosaic Idealize.ShloMosaic.TcCoe Cert.KernelIdeal Cert.KernelIdeal.Gen
open Cert.Attention Cert.Rows Cert.Table

/-- The attention of every query. -/
def result (q k v : FVec Ideal S8x16384x64 .bf16) (kc vc : FVec Ideal S8x256x64 .bf16) (b : FVec Ideal S8x15x31 .f32) :
    FVec Ideal S8x16384x64 .bf16 := fun j =>
  attention q k v kc vc b (j 0) ⟨(j 1).val / 64, by have h : (j 1).val < 16384 := (j 1).isLt; omega⟩
    ⟨(j 1).val % 64, Nat.mod_lt _ (by decide)⟩ (j 2)

theorem row_result (q k v : FVec Ideal S8x16384x64 .bf16) (kc vc : FVec Ideal S8x256x64 .bf16) (b : FVec Ideal S8x15x31 .f32)
    (t : Fin 256) (h : Fin 8) (c d : Fin 64) : row (result q k v kc vc b) t (ix3 h c d) = attention q k v kc vc b h t c d := by
  show attention q k v kc vc b h ⟨(t.val * 64 + c.val) / 64, _⟩ ⟨(t.val * 64 + c.val) % 64, _⟩ d = _
  exact congrArg₂ (fun r c => attention q k v kc vc b h r c d) (Fin.ext (by show (t.val * 64 + c.val) / 64 = t.val; omega))
    (Fin.ext (by show (t.val * 64 + c.val) % 64 = c.val; omega))

variable (m : (ℓ : Loc nD τ sig) → Buf (Elt Ideal) ℓ)

/-- The attention of every query, of the arguments at the start. -/
abbrev array (c : Dev nD) : FVec Ideal S8x16384x64 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point computes: the attention of its row of queries. -/
theorem out_eq (c : Dev nD) (t : Fin 256) :
    out0_20 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) = row (array m c) t := by
  obtain ⟨⟨k0, k1, k2, k3⟩, k4, k5, k6, k7⟩ := iblk_k m c t
  obtain ⟨⟨v0, v1, v2, v3⟩, v4, v5, v6, v7⟩ := iblk_v m c t
  rw [iblk_q m c t, k0, k1, k2, k3, k4, k5, k6, k7, v0, v1, v2, v3, v4, v5, v6, v7, (iblk_ctx m c t).1, (iblk_ctx m c t).2,
    iblk_bias m c t, V_table, V_main_arg0, V_main_arg1, V_main_arg2, V_main_arg3, V_main_arg4]
  funext j
  idx_vars j
  rw [row_result, ← value_eq]
  exact Block.out_apply _ (fun i => row _ ⟨_, first_add_lt t.val i⟩) (fun i => row _ ⟨_, first_add_lt t.val i⟩) _ _ _ j0 j1 j2

/-- A point writes back its row of the result. -/
theorem flushed_eq (c : Dev nD) (t : Fin cfg0.N) :
    (dats m 0 c).flushed 20 t = ((cfg0.win 20).blk t).view.read (Elt Ideal) (array m c) := by
  rw [Value.flushed20, out_eq m c t]
  refine Eq.symm ?_
  refine (row_of (array m c) t _ fun j a => ?_).trans ?_
  · blk_simp [(idx_q t).2]
    rfl
  · rfl

/-- Every index of the array is in the block of its row. -/
theorem cover (i : S8x16384x64.Idx) : ∃ t : Fin cfg0.N, (cfg0.win 20).flush t = true ∧ i ∈ ((cfg0.win 20).blk t).view.set := by
  have h0 : (i 0).val < 8 := (i 0).isLt
  have h1 : (i 1).val < 16384 := (i 1).isLt
  have h2 : (i 2).val < 64 := (i 2).isLt
  have hN : grid0.N = 256 := N_0
  obtain ⟨t, ht⟩ : ∃ t : Fin grid0.N, t.val = (i 1).val / 64 := ⟨⟨(i 1).val / 64, by omega⟩, rfl⟩
  refine ⟨t, flush0_20 _, ?_⟩
  mem_blk [fun t : Fin grid0.N => (idx_q t).2]
  omega

/-- The array after the last point. -/
theorem arrAt_eq (c : Dev nD) : (dats m 0 c).arrAt 20 cfg0.N = array m c :=
  (dats m 0 c).arrAt_eq_of_cover 20 (array m c) (fun t _ => flushed_eq m c t) cover

end Cert.Array

end
-- ==== Proof.Index.lean ====
/- The reference's index arrays: which rows and columns a query sees, as numbers. -/
module

public import proofs.«01_k».proof.Proof.Attention
public import proofs.«01_k».proof.Proof.Gen.ReferenceIdeal.Read
public import Idealize.ShloMosaic.Lib.StableHlo.Predicate

@[expose] public section

set_option maxRecDepth 16384

noncomputable section

namespace Cert.Index

open Idealize.ShloMosaic Idealize.ShloMosaic.TcCoe Cert.ReferenceIdeal Cert.ReferenceIdeal.Read
open Cert.Rows Cert.Table Cert.Attention

/-- The clipped first column and first row, as words. -/
theorem word_col : ∀ c : Fin 64, IntOp.minsi 48#32 (IntOp.maxsi 0#32 (IntOp.subi (BitVec.ofNat 32 c.val) 8#32)) = BitVec.ofNat 32 (firstCol c.val) := by
  decide +kernel

theorem word_row : ∀ r : Fin 256, IntOp.minsi 248#32 (IntOp.maxsi 0#32 (IntOp.subi (BitVec.ofNat 32 r.val) 4#32)) = BitVec.ofNat 32 (first r.val) := by
  decide +kernel

/-- A small word is not negative, so an index into an axis stays as it is. -/
theorem word_keep (n a : ℕ) (h : n < 2 ^ 31) :
    Scalar.select (IntOp.cmpi .slt (BitVec.ofNat 32 n) 0#32) (IntOp.addi (BitVec.ofNat 32 n) (BitVec.ofNat 32 a)) (BitVec.ofNat 32 n) = BitVec.ofNat 32 n := by
  have hc : IntOp.cmpi .slt (BitVec.ofNat 32 n) 0#32 = 0#1 :=
    (BitVec.eq_zero_or_eq_one _).resolve_right fun h1 =>
      absurd ((StableHlo.Predicate.slt_ofNat_iff n 0 h (by decide)).mp h1) (Nat.not_lt_zero n)
  rw [hc]
  rfl

/-- A difference of two small words plus a third, where it is not negative. -/
theorem word_off (a b k : ℕ) (h : b ≤ a + k) :
    IntOp.addi (IntOp.subi (BitVec.ofNat 32 a) (BitVec.ofNat 32 b)) (BitVec.ofNat 32 k) = BitVec.ofNat 32 (a + k - b) := by
  refine BitVec.eq_of_toNat_eq ?_
  simp only [IntOp.addi, IntOp.subi, BitVec.toNat_add, BitVec.toNat_sub, BitVec.toNat_ofNat]
  omega

theorem word_place (a k b : ℕ) :
    IntOp.addi (IntOp.muli (BitVec.ofNat 32 a) (BitVec.ofNat 32 k)) (BitVec.ofNat 32 b) = BitVec.ofNat 32 (a * k + b) := by
  rw [BitVec.ofNat_add, BitVec.ofNat_mul]
  rfl

theorem first_row (r : Fin 256) : val_main_v35 (F := Ideal) (ix1 r) = BitVec.ofNat 32 (first r.val) := by
  simp only [val_main_v35_apply, val_main_call1_v4_apply, val_main_call1_v3_apply, val_main_c_7_apply, val_main_call1_v2_apply,
    val_main_call1_v1_apply, val_main_call1_v0_apply, val_main_c_6_apply, val_main_v34_apply, val_main_v33_apply, val_main_v32_apply, val_main_c_5_apply]
  exact word_row r

theorem first_col (c : Fin 64) : val_main_v13 (F := Ideal) (ix1 c) = BitVec.ofNat 32 (firstCol c.val) := by
  simp only [val_main_v13_apply, val_main_call0_v4_apply, val_main_call0_v3_apply, val_main_c_1_apply, val_main_call0_v2_apply,
    val_main_call0_v1_apply, val_main_call0_v0_apply, val_main_c_0_apply, val_main_v12_apply, val_main_v11_apply, val_main_v10_apply, val_main_c_apply]
  exact word_col c

theorem key_col (c : Fin 64) (j : Fin 16) : val_main_v19 (F := Ideal) (ix2 c j) = BitVec.ofNat 32 (firstCol c.val + j.val) := by
  rw [val_main_v19_apply, val_main_v17_apply, val_main_v14_apply, val_main_v18_apply, val_main_v16_apply, val_main_v15_apply, BitVec.ofNat_add]
  exact congrArg (· + BitVec.ofNat 32 j.val) (first_col c)

theorem key_row (r : Fin 256) (j : Fin 8) : val_main_v41 (F := Ideal) (ix2 r j) = BitVec.ofNat 32 (first r.val + j.val) := by
  rw [val_main_v41_apply, val_main_v39_apply, val_main_v36_apply, val_main_v40_apply, val_main_v38_apply, val_main_v37_apply, BitVec.ofNat_add]
  exact congrArg (· + BitVec.ofNat 32 j.val) (first_row r)

/-- The number of a key in the image. -/
theorem key (r : Fin 256) (c : Fin 64) (n : Fin 128) :
    val_main_v49 (F := Ideal) (ix3 r c n) = BitVec.ofNat 32 (at' (keyRow r n) (keyCol c n)).val := by
  have e : idx_main_v49 (ix3 r c n) = ix4 r c ⟨n.val / 16, by omega⟩ ⟨n.val % 16, Nat.mod_lt _ (by decide)⟩ := by
    funext a
    refine Fin.ext ?_
    match a with
    | ⟨0, _⟩ => show ((r.val * 64 + c.val) * 128 + n.val) / 8192 = r.val; omega
    | ⟨1, _⟩ => show ((r.val * 64 + c.val) * 128 + n.val) / 128 % 64 = c.val; omega
    | ⟨2, _⟩ => show ((r.val * 64 + c.val) * 128 + n.val) / 16 % 8 = n.val / 16; omega
    | ⟨3, _⟩ => show ((r.val * 64 + c.val) * 128 + n.val) % 16 = n.val % 16; omega
  have hr := key_row r ⟨n.val / 16, by omega⟩
  have hc := key_col c ⟨n.val % 16, Nat.mod_lt _ (by decide)⟩
  have er : idx_main_v42 (idx_main_v46 (ix4 r c ⟨n.val / 16, by omega⟩ ⟨n.val % 16, Nat.mod_lt _ (by decide)⟩)) = ix2 r ⟨n.val / 16, by omega⟩ := by
    funext a
    match a with
    | ⟨0, _⟩ => rfl
    | ⟨1, _⟩ => rfl
  have ec : idx_main_v45 (idx_main_v47 (ix4 r c ⟨n.val / 16, by omega⟩ ⟨n.val % 16, Nat.mod_lt _ (by decide)⟩))
      = ix2 c ⟨n.val % 16, Nat.mod_lt _ (by decide)⟩ := by
    funext a
    match a with
    | ⟨0, _⟩ => rfl
    | ⟨1, _⟩ => rfl
  rw [val_main_v49_apply, e, val_main_v48_apply, val_main_v46_apply, val_main_v44_apply, val_main_v42_apply, val_main_v43_apply,
    val_main_c_8_apply, val_main_v47_apply, val_main_v45_apply, er, ec, hr, hc]
  exact word_place _ 64 _

/-- The indices of the keys, of the values, of the bias's rows and of its columns. -/
theorem key_at (r : Fin 256) (c : Fin 64) (n : Fin 128) :
    val_main_v56 (F := Ideal) (ix4 r c n (0 : Fin 1)) = BitVec.ofNat 32 (at' (keyRow r n) (keyCol c n)).val := by
  rw [val_main_v56_apply, val_main_v55_apply, val_main_v52_apply, val_main_v54_apply, val_main_v51_apply, val_main_c_9_apply,
    val_main_v53_apply, val_main_c_10_apply]
  refine (congrArg (fun z => Scalar.select (IntOp.cmpi .slt z 0#32) (IntOp.addi z 16384#32) z) (key r c n)).trans (word_keep _ 16384 ?_)
  have := (at' (keyRow r n) (keyCol c n)).isLt
  omega

theorem value_at (r : Fin 256) (c : Fin 64) (n : Fin 128) :
    val_main_v63 (F := Ideal) (ix4 r c n (0 : Fin 1)) = BitVec.ofNat 32 (at' (keyRow r n) (keyCol c n)).val := by
  rw [val_main_v63_apply, val_main_v62_apply, val_main_v59_apply, val_main_v61_apply, val_main_v58_apply, val_main_c_11_apply,
    val_main_v60_apply, val_main_c_12_apply]
  refine (congrArg (fun z => Scalar.select (IntOp.cmpi .slt z 0#32) (IntOp.addi z 16384#32) z) (key r c n)).trans (word_keep _ 16384 ?_)
  have := (at' (keyRow r n) (keyCol c n)).isLt
  omega

theorem row_at (r : Fin 256) (i : Fin 8) :
    val_main_v75 (F := Ideal) (ix3 r i (0 : Fin 1)) = BitVec.ofNat 32 (first r.val + i.val + 7 - r.val) := by
  rw [val_main_v75_apply, val_main_v74_apply, val_main_v71_apply, val_main_v73_apply, val_main_v70_apply, val_main_c_14_apply,
    val_main_v72_apply, val_main_c_15_apply]
  have h : val_main_v69 (F := Ideal) (ix2 r i) = BitVec.ofNat 32 (first r.val + i.val + 7 - r.val) := by
    rw [val_main_v69_apply, val_main_v67_apply, val_main_v66_apply, val_main_v65_apply, val_main_v32_apply, val_main_v68_apply,
      val_main_c_13_apply, key_row]
    exact word_off (first r.val + i.val) r.val 7 (by unfold first; omega)
  refine (congrArg (fun z => Scalar.select (IntOp.cmpi .slt z 0#32) (IntOp.addi z 15#32) z) h).trans (word_keep _ 15 ?_)
  unfold first
  omega

theorem col_at (c : Fin 64) (j : Fin 16) :
    val_main_v30 (F := Ideal) (ix3 c j (0 : Fin 1)) = BitVec.ofNat 32 (firstCol c.val + j.val + 15 - c.val) := by
  rw [val_main_v30_apply, val_main_v29_apply, val_main_v26_apply, val_main_v28_apply, val_main_v25_apply, val_main_c_3_apply,
    val_main_v27_apply, val_main_c_4_apply]
  have h : val_main_v24 (F := Ideal) (ix2 c j) = BitVec.ofNat 32 (firstCol c.val + j.val + 15 - c.val) := by
    rw [val_main_v24_apply, val_main_v22_apply, val_main_v21_apply, val_main_v20_apply, val_main_v10_apply, val_main_v23_apply,
      val_main_c_2_apply, key_col]
    exact word_off (firstCol c.val + j.val) c.val 15 (by unfold firstCol; omega)
  refine (congrArg (fun z => Scalar.select (IntOp.cmpi .slt z 0#32) (IntOp.addi z 31#32) z) h).trans (word_keep _ 31 ?_)
  unfold firstCol
  omega

end Cert.Index

end
-- ==== Proof.Scores.lean ====
/- The reference's arrays, read at an index: its scores, their greatest, its values. -/
module

public import proofs.«01_k».proof.Proof.Index
public import proofs.«01_k».proof.Proof.Gather
public import Idealize.ShloMosaic.Lib.Pointwise

@[expose] public section

set_option maxRecDepth 16384

noncomputable section

namespace Cert.Scores

open Idealize.ShloMosaic Idealize.ShloMosaic.TcCoe Cert.ReferenceIdeal Cert.ReferenceIdeal.Gen Cert.ReferenceIdeal.Read
open Cert.Rows Cert.Table Cert.Attention Cert.Softmax Cert.Head

variable (q k v : FVec Ideal S8x16384x64 .bf16) (kc vc : FVec Ideal S8x256x64 .bf16) (b : FVec Ideal S8x15x31 .f32)

theorem query_at (r : Fin 256) (c : Fin 64) (h : Fin 8) (e : Fin 64) :
    val_main_v50 (F := Ideal) q (ix4 r c h e) = q (ix3 h (at' r c) e) := by
  rw [val_main_v50_apply, val_main_v1_apply, val_main_v0_apply]
  refine congrArg q (funext fun a => Fin.ext ?_)
  match a with
  | ⟨0, _⟩ => show (((r.val * 64 + c.val) * 8 + h.val) * 64 + e.val) / 64 % 8 = h.val; omega
  | ⟨1, _⟩ => show (((r.val * 64 + c.val) * 8 + h.val) * 64 + e.val) / 512 = r.val * 64 + c.val; omega
  | ⟨2, _⟩ => show (((r.val * 64 + c.val) * 8 + h.val) * 64 + e.val) % 64 = e.val; omega

theorem key_of (r : Fin 256) (c : Fin 64) (n : Fin 128) (h : Fin 8) (e : Fin 64) :
    val_main_v57 (F := Ideal) k (ix5 r c n h e) = k (ix3 h (at' (keyRow r n) (keyCol c n)) e) := by
  refine (Gather.reference_keys (val_main_v3 (F := Ideal) k) (val_main_v56 (F := Ideal)) r c n h e _ (Index.key_at r c n)).trans ?_
  rw [val_main_v3_apply, val_main_v2_apply]
  refine congrArg k (funext fun a => ?_)
  match a with
  | ⟨0, _⟩ => rfl
  | ⟨1, _⟩ => rfl
  | ⟨2, _⟩ => rfl

theorem value_of (r : Fin 256) (c : Fin 64) (n : Fin 128) (h : Fin 8) (d : Fin 64) :
    val_main_v64 (F := Ideal) v (ix5 r c n h d) = seen v h r c d n := by
  refine (Gather.reference_keys (val_main_v5 (F := Ideal) v) (val_main_v63 (F := Ideal)) r c n h d _ (Index.value_at r c n)).trans ?_
  rw [val_main_v5_apply, val_main_v4_apply]
  refine congrArg v (funext fun a => ?_)
  match a with
  | ⟨0, _⟩ => rfl
  | ⟨1, _⟩ => rfl
  | ⟨2, _⟩ => rfl

theorem bias_of (r : Fin 256) (h : Fin 8) (c : Fin 64) (n : Fin 128) :
    val_main_v78 (F := Ideal) b (ix4 r h c n) = b (ix3 h (rowDist r n) (colDist c n)) := by
  have e : idx_main_v77 (idx_main_v78 (ix4 r h c n)) = ix5 h r ⟨n.val / 16, by omega⟩ c ⟨n.val % 16, Nat.mod_lt _ (by decide)⟩ := by
    funext a
    refine Fin.ext ?_
    match a with
    | ⟨0, _⟩ => show (((r.val * 8 + h.val) * 64 + c.val) * 128 + n.val) / 8192 % 8 = h.val; omega
    | ⟨1, _⟩ => show (((r.val * 8 + h.val) * 64 + c.val) * 128 + n.val) / 65536 = r.val; omega
    | ⟨2, _⟩ => show (((r.val * 8 + h.val) * 64 + c.val) * 128 + n.val) / 16 % 8 = n.val / 16; omega
    | ⟨3, _⟩ => show (((r.val * 8 + h.val) * 64 + c.val) * 128 + n.val) / 128 % 64 = c.val; omega
    | ⟨4, _⟩ => show (((r.val * 8 + h.val) * 64 + c.val) * 128 + n.val) % 16 = n.val % 16; omega
  rw [val_main_v78_apply, val_main_v77_apply, e]
  refine (Gather.reference_rows (val_main_v31 (F := Ideal) b) (val_main_v75 (F := Ideal)) h r _ c _ (rowDist r n) (Index.row_at r ⟨n.val / 16, by omega⟩)).trans ?_
  exact Gather.reference_columns b (val_main_v30 (F := Ideal)) h _ c _ (colDist c n) (Index.col_at c ⟨n.val % 16, Nat.mod_lt _ (by decide)⟩)

/-- The local scores. -/
theorem score_of (r : Fin 256) (h : Fin 8) (c : Fin 64) (n : Fin 128) :
    val_main_v82 (F := Ideal) q k b (ix4 r h c n) = score q k b h r c n := by
  rw [val_main_v82_apply, val_main_v81_apply, val_main_v79_apply, val_main_v80_apply, val_main_cst_apply, bias_of]
  refine congrArg₂ (fun x y : EReal => x * scale + y) (Finset.sum_congr rfl fun e _ => ?_) rfl
  refine congrArg₂ (fun x y : EReal => x * y) ((congrArg (val_main_v50 (F := Ideal) q) ?_).trans (query_at q r c h e))
    ((congrArg (val_main_v57 (F := Ideal) k) ?_).trans (key_of k r c n h e))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

/-- The context's scores. -/
theorem ctx_of (r : Fin 256) (h : Fin 8) (c : Fin 64) (n : Fin 256) :
    val_main_v86 (F := Ideal) q kc (ix4 r h c n) = ctx q kc h r c n := by
  rw [val_main_v86_apply, val_main_v84_apply, val_main_v83_apply, val_main_v85_apply, val_main_cst_16_apply]
  refine congrArg (fun x : EReal => x * scale) (Finset.sum_congr rfl fun e _ => ?_)
  rw [mul_comm, val_main_v7_apply, val_main_v6_apply]
  refine congrArg₂ (fun x y : EReal => x * y) ((congrArg (val_main_v50 (F := Ideal) q) ?_).trans (query_at q r c h e)) (congrArg kc ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl

/-- The two lists of scores side by side. -/
theorem joined_left (r : Fin 256) (h : Fin 8) (c : Fin 64) (n : Fin 128) :
    val_main_v87 (F := Ideal) q k kc b (ix4 r h c ⟨n.val, by omega⟩) = score q k b h r c n := by
  refine (concatenate_pair_apply_left (t := S256x8x64x384) 3 (val_main_v82 (F := Ideal) q k b) (val_main_v86 (F := Ideal) q kc) concatenates_S256x8x64x128_S256x8x64x256_S256x8x64x384_d3 _ rfl (ix4 r h c n) fun a => ?_).trans (score_of q k b r h c n)
  match a with
  | ⟨0, _⟩ => rfl
  | ⟨1, _⟩ => rfl
  | ⟨2, _⟩ => rfl
  | ⟨3, _⟩ => rfl

theorem joined_right (r : Fin 256) (h : Fin 8) (c : Fin 64) (n : Fin 256) :
    val_main_v87 (F := Ideal) q k kc b (ix4 r h c ⟨128 + n.val, by omega⟩) = ctx q kc h r c n := by
  refine (concatenate_pair_apply_right (t := S256x8x64x384) 3 (val_main_v82 (F := Ideal) q k b) (val_main_v86 (F := Ideal) q kc) concatenates_S256x8x64x128_S256x8x64x256_S256x8x64x384_d3 (ix4 r h c ⟨128 + n.val, by omega⟩) rfl rfl (ix4 r h c n) (fun a ha => ?_) (Nat.add_comm n.val 128)).trans (ctx_of q kc r h c n)
  match a with
  | ⟨0, _⟩ => rfl
  | ⟨1, _⟩ => rfl
  | ⟨2, _⟩ => rfl
  | ⟨3, _⟩ => exact absurd rfl ha

/-- The greatest of a joined list is the greater of the two lists'. -/
theorem top_join (F : Fin 384 → EReal) (f : Fin 128 → EReal) (g : Fin 256 → EReal) (hf : ∀ n : Fin 128, F ⟨n.val, by omega⟩ = f n)
    (hg : ∀ n : Fin 256, F ⟨128 + n.val, by omega⟩ = g n) : top F = max (top f) (top g) := by
  refine le_antisymm ((top_le_iff F _).2 fun n => ?_)
    (max_le ((top_le_iff f _).2 fun n => hf n ▸ le_top F _) ((top_le_iff g _).2 fun n => hg n ▸ le_top F _))
  by_cases hn : n.val < 128
  · exact le_max_of_le_left ((hf ⟨n.val, hn⟩).le.trans (le_top f _))
  · refine le_max_of_le_right (le_trans (le_of_eq ?_) (le_top g ⟨n.val - 128, by omega⟩))
    rw [← hg]
    exact congrArg F (Fin.ext (by show n.val = 128 + (n.val - 128); omega))

/-- And the sum of a joined list is the two lists' sums. -/
theorem sum_join (F : Fin 384 → EReal) (f : Fin 128 → EReal) (g : Fin 256 → EReal) (hf : ∀ n : Fin 128, F ⟨n.val, by omega⟩ = f n)
    (hg : ∀ n : Fin 256, F ⟨128 + n.val, by omega⟩ = g n) : ∑ n, F n = ∑ n, f n + ∑ n, g n := by
  rw [show ∑ n, F n = _ from Fin.sum_univ_add (a := 128) (b := 256) F]
  exact congrArg₂ (· + ·) (Finset.sum_congr rfl fun n _ => hf n) (Finset.sum_congr rfl fun n _ => hg n)

/-- The greatest score of a query. -/
abbrev most (h : Fin 8) (r : Fin 256) (c : Fin 64) : EReal := max (top (score q k b h r c)) (top (ctx q kc h r c))

theorem reduce_max (y : S256x8x64x384.Idx → EReal) (z : S_.Idx → EReal) (r : Fin 256) (h : Fin 8) (c : Fin 64) :
    Host.reduce max y z reducesTo_S256x8x64x384_S256x8x64_d3 h_S_ (ix3 r h c)
      = Finset.univ.fold max (z (Shape.Idx.first h_S_)) fun n : Fin 384 => y (ix4 r h c n) := by
  rw [Host.reduce_eq_fold_single max y z reducesTo_S256x8x64x384_S256x8x64_d3 (by decide) h_S_]
  refine congrArg (fun w => Finset.fold max _ w Finset.univ) (funext fun n => congrArg y (funext fun a => ?_))
  match a with
  | ⟨0, _⟩ => rfl
  | ⟨1, _⟩ => rfl
  | ⟨2, _⟩ => rfl
  | ⟨3, _⟩ => rfl

theorem greatest (r : Fin 256) (h : Fin 8) (c : Fin 64) :
    val_main_v90 (F := Ideal) q k kc b (ix3 r h c) = most q k kc b h r c := by
  have h88 : val_main_v88 (F := Ideal) q k kc b (ix3 r h c) = most q k kc b h r c := by
    refine Eq.trans ?_ (top_join (fun n => val_main_v87 (F := Ideal) q k kc b (ix4 r h c n)) _ _ (joined_left q k kc b r h c) (joined_right q k kc b r h c))
    refine (reduce_max (val_main_v87 (F := Ideal) q k kc b) (val_main_cst_17 (F := Ideal)) r h c).trans ?_
    exact congrArg (fun z => Finset.fold max z _ Finset.univ) Ideal_bot
  rw [val_main_v90_apply, val_main_v89_apply, val_main_cst_18_apply, h88]
  exact (congrArg (max · _) Ideal_bot).trans (max_eq_right bot_le)

/-- The weight of a score. -/
theorem weight_of (r : Fin 256) (h : Fin 8) (c : Fin 64) (n : Fin 384) :
    val_main_v94 (F := Ideal) q k kc b (ix4 r h c n) = weight (most q k kc b h r c) (val_main_v87 (F := Ideal) q k kc b (ix4 r h c n)) := by
  rw [val_main_v94_apply, val_main_v93_apply, val_main_v92_apply, val_main_v91_apply, ← greatest]
  refine congrArg (fun z => Ideal.exp (_ - val_main_v90 (F := Ideal) q k kc b z)) (funext fun a => ?_)
  match a with
  | ⟨0, _⟩ => rfl
  | ⟨1, _⟩ => rfl
  | ⟨2, _⟩ => rfl

/-- The sum of a query's weights. -/
theorem total_of (r : Fin 256) (h : Fin 8) (c : Fin 64) :
    val_main_v95 (F := Ideal) q k kc b (ix3 r h c) = total (most q k kc b h r c) (score q k b h r c) (ctx q kc h r c) := by
  rw [val_main_v95_apply, val_main_cst_19_apply]
  refine Eq.trans ?_ (sum_join (fun n => val_main_v94 (F := Ideal) q k kc b (ix4 r h c n)) _ _
    (fun n => (weight_of q k kc b r h c _).trans (congrArg _ (joined_left q k kc b r h c n)))
    fun n => (weight_of q k kc b r h c _).trans (congrArg _ (joined_right q k kc b r h c n)))
  refine Eq.trans (congrArg₂ (fun x y : EReal => x + y) ?_ (Finset.sum_congr rfl fun n _ => congrArg (val_main_v94 (F := Ideal) q k kc b) (funext fun a => ?_)))
    (zero_add _)
  · show Ideal.ofBits .f32 0#32 = 0
    simp [Ideal.ofBits, Ideal.ieee]
  · match a with
    | ⟨0, _⟩ => rfl
    | ⟨1, _⟩ => rfl
    | ⟨2, _⟩ => rfl
    | ⟨3, _⟩ => rfl

/-- A weight over their sum. -/
theorem share_of (r : Fin 256) (h : Fin 8) (c : Fin 64) (n : Fin 384) :
    val_main_v98 (F := Ideal) q k kc b (ix4 r h c n) = Ideal.div (weight (most q k kc b h r c) (val_main_v87 (F := Ideal) q k kc b (ix4 r h c n)))
      (total (most q k kc b h r c) (score q k b h r c) (ctx q kc h r c)) := by
  rw [val_main_v98_apply, weight_of, val_main_v97_apply, val_main_v96_apply, ← total_of]
  refine congrArg (fun z => Ideal.div _ (val_main_v95 (F := Ideal) q k kc b z)) (funext fun a => ?_)
  match a with
  | ⟨0, _⟩ => rfl
  | ⟨1, _⟩ => rfl
  | ⟨2, _⟩ => rfl

/-- The part of the result from the neighbourhood. -/
theorem near_of (r : Fin 256) (c : Fin 64) (h : Fin 8) (d : Fin 64) :
    val_main_v100 (F := Ideal) q k v kc b (ix4 r c h d)
      = ∑ n, Ideal.div (weight (most q k kc b h r c) (score q k b h r c n)) (total (most q k kc b h r c) (score q k b h r c) (ctx q kc h r c))
          * seen v h r c d n := by
  rw [val_main_v100_apply]
  refine Finset.sum_congr rfl fun n _ => congrArg₂ (fun x y : EReal => x * y) ?_ ((congrArg (val_main_v64 (F := Ideal) v) ?_).trans (value_of v r c n h d))
  · rw [val_main_v99_apply, ← joined_left q k kc b r h c n, ← share_of]
    refine congrArg (val_main_v98 (F := Ideal) q k kc b) (funext fun a => ?_)
    match a with
    | ⟨0, _⟩ => rfl
    | ⟨1, _⟩ => rfl
    | ⟨2, _⟩ => rfl
    | ⟨3, _⟩ => exact Fin.ext (by show _ = n.val; simp)
  · funext a
    match a with
    | ⟨0, _⟩ => rfl
    | ⟨1, _⟩ => rfl
    | ⟨2, _⟩ => rfl
    | ⟨3, _⟩ => rfl
    | ⟨4, _⟩ => rfl

/-- The part from the context. -/
theorem far_of (r : Fin 256) (c : Fin 64) (h : Fin 8) (d : Fin 64) :
    val_main_v103 (F := Ideal) q k kc vc b (ix4 r c h d)
      = ∑ n, Ideal.div (weight (most q k kc b h r c) (ctx q kc h r c n)) (total (most q k kc b h r c) (score q k b h r c) (ctx q kc h r c))
          * vc (ix3 h n d) := by
  rw [val_main_v103_apply, val_main_v102_apply]
  refine Finset.sum_congr rfl fun n _ => (mul_comm (_ : EReal) _).trans (congrArg₂ (fun x y : EReal => x * y) ?_ ?_)
  · rw [val_main_v101_apply, ← joined_right q k kc b r h c n, ← share_of]
    refine congrArg (val_main_v98 (F := Ideal) q k kc b) (funext fun a => ?_)
    match a with
    | ⟨0, _⟩ => rfl
    | ⟨1, _⟩ => rfl
    | ⟨2, _⟩ => rfl
    | ⟨3, _⟩ => rfl
  · rw [val_main_v9_apply, val_main_v8_apply]
    refine congrArg vc (funext fun a => ?_)
    match a with
    | ⟨0, _⟩ => rfl
    | ⟨1, _⟩ => rfl
    | ⟨2, _⟩ => rfl

/-- The reference's result: the attention of a query, each weight divided on its own. -/
theorem result_of (h : Fin 8) (r : Fin 256) (c d : Fin 64) :
    val_main_v107 (F := Ideal) q k v kc vc b (ix3 h (at' r c) d)
      = divideFirst (score q k b h r c) (seen v h r c d) (ctx q kc h r c) fun n => vc (ix3 h n d) := by
  have e : idx_main_v105 (idx_main_v106 (ix3 h (at' r c) d)) = ix4 r c h d := by
    funext a
    refine Fin.ext ?_
    match a with
    | ⟨0, _⟩ => show (((r.val * 64 + c.val) * 8 + h.val) * 64 + d.val) / 32768 = r.val; omega
    | ⟨1, _⟩ => show (((r.val * 64 + c.val) * 8 + h.val) * 64 + d.val) / 512 % 64 = c.val; omega
    | ⟨2, _⟩ => show (((r.val * 64 + c.val) * 8 + h.val) * 64 + d.val) / 64 % 8 = h.val; omega
    | ⟨3, _⟩ => show (((r.val * 64 + c.val) * 8 + h.val) * 64 + d.val) % 64 = d.val; omega
  rw [val_main_v107_apply, val_main_v106_apply, val_main_v105_apply, e, val_main_v104_apply, near_of, far_of]
  rfl

end Cert.Scores

end
-- ==== Proof.Finite.lean ====
/- Where the queries, the keys and the biases are finite, so are the scores, and the two quotients agree. -/
module

public import proofs.«01_k».proof.Proof.Scores
public import proofs.«01_k».proof.Pre_scores_finite
public import Idealize.ShloMosaic.Lib.ReduceAll

@[expose] public section

set_option maxRecDepth 16384

noncomputable section

namespace Cert.Finite

open Idealize.ShloMosaic Idealize.ShloMosaic.TcCoe Cert.KernelIdeal
open Cert.Attention Cert.Softmax Cert.Head

/-- An extended real that is a real number. -/
def Real' (x : EReal) : Prop := ∃ r : ℝ, x = r

theorem real_add {x y : EReal} : Real' x → Real' y → Real' (x + y) := by
  rintro ⟨a, rfl⟩ ⟨b, rfl⟩
  exact ⟨a + b, (EReal.coe_add a b).symm⟩

theorem real_mul {x y : EReal} : Real' x → Real' y → Real' (x * y) := by
  rintro ⟨a, rfl⟩ ⟨b, rfl⟩
  exact ⟨a * b, (EReal.coe_mul a b).symm⟩

theorem real_sum {n : ℕ} (f : Fin n → EReal) (h : ∀ i, Real' (f i)) : Real' (∑ i, f i) := by
  choose g hg using h
  refine ⟨∑ i, g i, ?_⟩
  rw [show f = fun i => (g i : EReal) from funext hg]
  induction (Finset.univ : Finset (Fin n)) using Finset.induction_on with
  | empty => simp
  | insert a s ha ih => rw [Finset.sum_insert ha, Finset.sum_insert ha, ih, EReal.coe_add]

theorem real_scale : Real' scale := ⟨8388608 * (2 ^ 26)⁻¹, by
  rw [EReal.coe_mul]
  simp [scale, Ideal.ofBits, Ideal.ieee]⟩

/-- A number whose magnitude compares below ∞ is real. -/
theorem real_of (x : EReal) (h : FloatOps.cmpf (F := Ideal) (φ := .f32) .olt (FloatOps.hostAbsf (F := Ideal) (φ := .f32) x) (Ideal.ofBits .f32 0x7F800000#32) = 1#1) :
    Real' x := by
  have ht : Ideal.ofBits .f32 0x7F800000#32 = ⊤ := by simp [Ideal.ofBits, Ideal.ieee]
  have hl : max x (-x) < (⊤ : EReal) := by
    rw [← ht]
    by_contra hn
    have h0 : Ideal.cmp .olt (max x (-x)) (Ideal.ofBits .f32 0x7F800000#32) = 0#1 := by simp [Ideal.cmp, hn]
    exact absurd (h0.symm.trans h) (by decide)
  refine ⟨x.toReal, (EReal.coe_toReal ?_ ?_).symm⟩
  · rintro rfl
    simp at hl
  · rintro rfl
    simp at hl

section
variable [Pre_scores_finite.Facts]

/-- What the precondition says. -/
theorem of_pre (q k v : FVec Ideal S8x16384x64 .bf16) (kc vc : FVec Ideal S8x256x64 .bf16) (b : FVec Ideal S8x15x31 .f32)
    (h : Pre_scores_finite.fn q k v kc vc b = fun _ => 1#1) :
    (∀ i, Real' (q i)) ∧ (∀ i, Real' (k i)) ∧ (∀ i, Real' (kc i)) ∧ ∀ i, Real' (b i) := by
  have h0 := congrFun h (fun a => a.elim0)
  dsimp only [Pre_scores_finite.fn, Pre_scores_finite.fn_part1, andi] at h0
  obtain ⟨h3, hb⟩ := IntOp.andi_eq_one.1 h0
  obtain ⟨h2, hc⟩ := IntOp.andi_eq_one.1 h3
  obtain ⟨hq, hk⟩ := IntOp.andi_eq_one.1 h2
  exact ⟨fun i => real_of _ (Host.reduce_andi_all _ _ _ _ _ hq i), fun i => real_of _ (Host.reduce_andi_all _ _ _ _ _ hk i),
    fun i => real_of _ (Host.reduce_andi_all _ _ _ _ _ hc i), fun i => real_of _ (Host.reduce_andi_all _ _ _ _ _ hb i)⟩

end

theorem score_real (q k : FVec Ideal S8x16384x64 .bf16) (b : FVec Ideal S8x15x31 .f32) (hq : ∀ i, Real' (q i)) (hk : ∀ i, Real' (k i))
    (hb : ∀ i, Real' (b i)) (h : Fin 8) (r : Fin 256) (c : Fin 64) (n : Fin 128) : Real' (score q k b h r c n) :=
  real_add (real_mul (real_sum _ fun _ => real_mul (hq _) (hk _)) real_scale) (hb _)

theorem ctx_real (q : FVec Ideal S8x16384x64 .bf16) (kc : FVec Ideal S8x256x64 .bf16) (hq : ∀ i, Real' (q i)) (hk : ∀ i, Real' (kc i))
    (h : Fin 8) (r : Fin 256) (c : Fin 64) (n : Fin 256) : Real' (ctx q kc h r c n) :=
  real_mul (real_sum _ fun _ => real_mul (hq _) (hk _)) real_scale

/-- So dividing each weight is dividing the sum. -/
theorem divideFirst_attention (q k v : FVec Ideal S8x16384x64 .bf16) (kc vc : FVec Ideal S8x256x64 .bf16) (b : FVec Ideal S8x15x31 .f32)
    (hq : ∀ i, Real' (q i)) (hk : ∀ i, Real' (k i)) (hc : ∀ i, Real' (kc i)) (hb : ∀ i, Real' (b i)) (h : Fin 8) (r : Fin 256) (c d : Fin 64) :
    divideFirst (score q k b h r c) (seen v h r c d) (ctx q kc h r c) (fun n => vc (ix3 h n d)) = attention q k v kc vc b h r c d := by
  have hM : Real' (max (top (score q k b h r c)) (top (ctx q kc h r c))) := by
    obtain ⟨i, hi⟩ := exists_eq_top (score q k b h r c)
    obtain ⟨j, hj⟩ := exists_eq_top (ctx q kc h r c)
    rw [← hi, ← hj]
    rcases max_choice (score q k b h r c i) (ctx q kc h r c j) with e | e <;> rw [e]
    · exact score_real q k b hq hk hb h r c i
    · exact ctx_real q kc hq hc h r c j
  obtain ⟨M, hM⟩ := hM
  exact divideFirst_eq _ _ _ _ M hM

end Cert.Finite

end
-- ==== Proof.ExpertsRun.lean ====
/- The experts' kernel, run at any contents of its two tables whose blocks lie inside the arrays.

   At every point the body compares the point with the count of used blocks. Below the count it stores the feed-forward of
   the point's rows under the point's expert, from the count on it stores zeros; so it stores at every point, and the block
   it stores is written back there. The tables stay as they are, and so do the arguments. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Lib.StableHlo.Predicate
public import Idealize.ShloMosaic.PureOps.Ideal
public import Idealize.ShloMosaic.Adequacy
public import Idealize.ShloMosaic.Init

@[expose] public section

set_option maxRecDepth 16384

noncomputable section

namespace Cert.ExpertsRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

/-- The expert of every block, and the count of used blocks. -/
abbrev expertTable : Memref sig .tc .smem S576 .i32 := Memref.whole main_arg1
abbrev countTable : Memref sig .tc .smem S1 .i32 := Memref.whole main_arg2

/-- The count, as the body reads it. -/
abbrev count (T : S1.Idx → Elt F .i32) : BitVec 32 :=
  View.readAt (Elt F) countTable.view (Rect.unit (s := S1) ![0] S1.size inb_S1_S1_0).toLoadRect T (Shape.Idx.first (numel1_S1.symm ▸ Nat.one_pos))

/-- The two conditions are each other's negation. -/
theorem cond2_iff (i : grid0.Coords) (n : BitVec 32) : k0_cond2 i n = 1#1 ↔ ¬ k0_cond1 i n = 1#1 := by
  unfold k0_cond1 k0_cond2
  simp only [Scalar.cmpi, Scalar.extui, IntOp.cmpi]
  by_cases h : (BitVec.ofNat 32 (i 0).val).slt n <;> simp [BitVec.sle_eq_not_slt, h]

/-- What the body stores at a point, from the count and the point's four blocks. -/
def stored (i : grid0.Coords) (n : BitVec 32) (x0 : S256x1024.Idx → Elt F .f32) (x1 x2 : S1x1024x256.Idx → Elt F .bf16)
    (x3 : S1x256x1024.Idx → Elt F .bf16) : S256x1024.Idx → Elt F .f32 :=
  if k0_cond1 i n = 1#1 then k0_pay1 x0 x1 x2 x3 else k0_pay2

set_option maxHeartbeats 8000000 in
/-- The body, from its blocks and its half of the tables. -/
theorem body (c : Dev nD) (i : grid0.Coords) (arg3 : Memref sig .tc .vmem S256x1024 .f32) (harg3 : arg3.IsWhole)
    (arg4 : Memref sig .tc .vmem S1x1024x256 .bf16) (harg4 : arg4.IsWhole) (arg5 : Memref sig .tc .vmem S1x1024x256 .bf16) (harg5 : arg5.IsWhole)
    (arg6 : Memref sig .tc .vmem S1x256x1024 .bf16) (harg6 : arg6.IsWhole) (arg7 : Memref sig .tc .vmem S256x1024 .f32) (harg7 : arg7.IsWhole)
    (T0 : S576.Idx → Elt F .i32) (T1 : S1.Idx → Elt F .i32)
    (x0 : S256x1024.Idx → Elt F .f32) (x1 x2 : S1x1024x256.Idx → Elt F .bf16) (x3 : S1x256x1024.Idx → Elt F .bf16) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (expertTable.view.loc (c : Thread nD τ) ↦{fullShare.right} T0)
        ∗ (countTable.view.loc (c : Thread nD τ) ↦{fullShare.right} T1)
        ∗ (∃ d, owns (c : Thread nD τ) arg7 fullShare d)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (expertTable.view.loc (c : Thread nD τ) ↦{fullShare.right} T0)
            ∗ (countTable.view.loc (c : Thread nD τ) ↦{fullShare.right} T1)
            ∗ owns (c : Thread nD τ) arg7 fullShare (stored i (count T1) x0 x1 x2 x3)) -∗ K ⟨⟩))
      ⊢ wp frame (wpE (defs₀ (F := F)) Variants.none c none) Set.univ
          (cc0__experts_kernel i expertTable (Memref.isWhole_whole _) countTable (Memref.isWhole_whole _) arg3 harg3 arg4 harg4 arg5 harg5 arg6 harg6 arg7 harg7) K := by
  have hT1 : countTable.IsWhole := Memref.isWhole_whole _
  rw [cc0__experts_kernel_eq_skeleton]
  unfold owns cc0__experts_kernel_skel stored
  iintro ⟨H0, H1, H2, H3, HT0, HT1, ⟨%d4, %f4, -, HO4⟩, Hk⟩
  by_cases hlive : k0_cond1 i (count T1) = 1#1
  · have hdead : ¬ k0_cond2 i (count T1) = 1#1 := fun h => (cond2_iff i _).1 h hlive
    rewrite [if_pos hlive]
    sl_exec! (disch := first | (guard_target = k0_cond1 _ _ = _; exact hlive) | (guard_target = ¬(k0_cond2 _ _ = _); exact hdead))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; swap
    · iexact HO4
    · ipureintro
      exact (View.read_writes_full _ _ _ _ _).trans (by
        rw [View.readAt_rep_full, View.readAt_rep_full, View.readAt_rep_full, View.readAt_rep_full])
  · have hdead : k0_cond2 i (count T1) = 1#1 := (cond2_iff i _).2 hlive
    rewrite [if_neg hlive]
    sl_exec! (disch := first | (guard_target = ¬(k0_cond1 _ _ = _); exact hlive) | (guard_target = k0_cond2 _ _ = _; exact hdead))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; swap
    · iexact HO4
    · ipureintro
      exact View.read_writes_full _ _ _ _ _

/-! ## The pipeline at given tables -/

variable (a : (pcfg0 (F := F)).Adm) (m : (ℓ : Loc nD τ sig) → Buf (Elt F) ℓ) (ρ : Dev nD → PrngReg)

abbrev cfgA : Cfg sig Λ₀ := cfg0 (F := F) a

abbrev experts : S576.Idx → Elt F .i32 := a.1 0
abbrev used : S1.Idx → Elt F .i32 := a.1 1

/-- The output is stored at every point, -/
theorem never_idle (t : Fin (cfgA a).N) : (cfgA a).idle (4 : Fin 5) ((cfgA a).grid.coords t) = false := by
  show (!(k0_cond1 _ (a.1.atD 1 ![0]) == 1#1) && !(k0_cond2 _ (a.1.atD 1 ![0]) == 1#1)) = false
  by_cases h : k0_cond1 ((cfgA a).grid.coords t) (a.1.atD 1 ![0]) = 1#1
  · rw [show (k0_cond1 ((cfgA a).grid.coords t) (a.1.atD 1 ![0]) == 1#1) = true from beq_iff_eq.2 h]; rfl
  · rw [show (k0_cond2 ((cfgA a).grid.coords t) (a.1.atD 1 ![0]) == 1#1) = true from beq_iff_eq.2 ((cond2_iff _ _).2 h)]
    exact Bool.and_false _

/-- and written back at every point. -/
theorem flushed (t : Fin (cfgA a).N) : ((cfgA a).win (4 : Fin 5)).flush t = true :=
  (Window.flush_reads (win0 a 4) rfl 0 (by decide) (show grid0.fixedAfter reads0_4 0 = true by decide)
    (Window.sep_of_coord cc0_transform_4 0 0 (fun _ => rfl) (by decide)) (P := 1) (m := 0) (by decide) rfl t).mpr (Nat.mod_one _)

abbrev at0 (t : Fin (cfgA a).N) : Memref sig .tc .vmem S256x1024 .f32 := spec0_0.stage ((cfgA a).slots t (0 : Fin 5))
abbrev at1 (t : Fin (cfgA a).N) : Memref sig .tc .vmem S1x1024x256 .bf16 := spec0_1.stage ((cfgA a).slots t (1 : Fin 5))
abbrev at2 (t : Fin (cfgA a).N) : Memref sig .tc .vmem S1x1024x256 .bf16 := spec0_2.stage ((cfgA a).slots t (2 : Fin 5))
abbrev at3 (t : Fin (cfgA a).N) : Memref sig .tc .vmem S1x256x1024 .bf16 := spec0_3.stage ((cfgA a).slots t (3 : Fin 5))
abbrev at4 (t : Fin (cfgA a).N) : Memref sig .tc .vmem S256x1024 .f32 := spec0_4.stage ((cfgA a).slots t (4 : Fin 5))

/-- A window's block at a point, of the array as it was at the start. -/
def block (c : Dev nD) (w : Fin (cfgA a).W) (t : Fin (cfgA a).N) : (((cfgA a).win w).xblock ((cfgA a).grid.coords t)).Idx → Elt F ((cfgA a).win w).elt :=
  (((cfgA a).win w).blk t).view.read (Elt F) ((s₀ m ρ).mem (((cfgA a).win w).arr.view.loc (c : Thread nD τ)))

/-- What a point writes back. -/
def out (c : Dev nD) (t : Fin (cfgA a).N) : S256x1024.Idx → Elt F .f32 :=
  stored ((cfgA a).grid.coords t) (count (used a)) (block a m ρ c (0 : Fin 5) t) (block a m ρ c (1 : Fin 5) t) (block a m ρ c (2 : Fin 5) t)
    (block a m ρ c (3 : Fin 5) t)

/-- Between points the body keeps its half of the two tables. -/
def kept (c : Dev nD) : sProp 𝕄 :=
  iprop((expertTable.view.loc (c : Thread nD τ) ↦{fullShare.right} experts a) ∗ (countTable.view.loc (c : Thread nD τ) ↦{fullShare.right} used a))

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => block a m ρ c (0 : Fin 5) t
    | ⟨1, _⟩ => block a m ρ c (1 : Fin 5) t
    | ⟨2, _⟩ => block a m ρ c (2 : Fin 5) t
    | ⟨3, _⟩ => block a m ρ c (3 : Fin 5) t
    | ⟨4, _⟩ => out a m ρ c t
  Φ _ := kept a c
  q _ := fullShare
  owed _ := 0

variable (c : Dev nD) (t : Fin (cfgA a).N)

theorem after0 : (dats a m ρ 0 c).after (0 : Fin 5) t = block a m ρ c (0 : Fin 5) t := rfl
theorem after1 : (dats a m ρ 0 c).after (1 : Fin 5) t = block a m ρ c (1 : Fin 5) t := rfl
theorem after2 : (dats a m ρ 0 c).after (2 : Fin 5) t = block a m ρ c (2 : Fin 5) t := rfl
theorem after3 : (dats a m ρ 0 c).after (3 : Fin 5) t = block a m ρ c (3 : Fin 5) t := rfl
theorem after4 : (dats a m ρ 0 c).after (4 : Fin 5) t = out a m ρ c t := rfl

/-- An input's buffer holds the point's block before the body, fetched there or held from the point before. -/
theorem before0 (d) : (dats a m ρ 0 c).before (0 : Fin 5) t d = block a m ρ c (0 : Fin 5) t :=
  ((dats a m ρ 0 c).before_in_eq_fetched (0 : Fin 5) rfl (fun _ => rfl) (fun _ _ _ => rfl) (fun t => by rw [after0]; unfold Dat.blockOf block; rfl) t d).trans
    (by unfold Dat.fetched Dat.blockOf block; rfl)
theorem before1 (d) : (dats a m ρ 0 c).before (1 : Fin 5) t d = block a m ρ c (1 : Fin 5) t :=
  ((dats a m ρ 0 c).before_in_eq_fetched (1 : Fin 5) rfl (fun _ => rfl) (fun _ _ _ => rfl) (fun t => by rw [after1]; unfold Dat.blockOf block; rfl) t d).trans
    (by unfold Dat.fetched Dat.blockOf block; rfl)
theorem before2 (d) : (dats a m ρ 0 c).before (2 : Fin 5) t d = block a m ρ c (2 : Fin 5) t :=
  ((dats a m ρ 0 c).before_in_eq_fetched (2 : Fin 5) rfl (fun _ => rfl) (fun _ _ _ => rfl) (fun t => by rw [after2]; unfold Dat.blockOf block; rfl) t d).trans
    (by unfold Dat.fetched Dat.blockOf block; rfl)
theorem before3 (d) : (dats a m ρ 0 c).before (3 : Fin 5) t d = block a m ρ c (3 : Fin 5) t :=
  ((dats a m ρ 0 c).before_in_eq_fetched (3 : Fin 5) rfl (fun _ => rfl) (fun _ _ _ => rfl) (fun t => by rw [after3]; unfold Dat.blockOf block; rfl) t d).trans
    (by unfold Dat.fetched Dat.blockOf block; rfl)

set_option maxHeartbeats 4000000 in
theorem sound :
    iprop((dats a m ρ 0 c).Φ t.castSucc ∗ (dats a m ρ 0 c).owesAt () t.castSucc
        ∗ (∃ d, owns (c : Thread nD τ) (at0 a t) fullShare ((dats a m ρ 0 c).before (0 : Fin 5) t d))
        ∗ (∃ d, owns (c : Thread nD τ) (at1 a t) fullShare ((dats a m ρ 0 c).before (1 : Fin 5) t d))
        ∗ (∃ d, owns (c : Thread nD τ) (at2 a t) fullShare ((dats a m ρ 0 c).before (2 : Fin 5) t d))
        ∗ (∃ d, owns (c : Thread nD τ) (at3 a t) fullShare ((dats a m ρ 0 c).before (3 : Fin 5) t d))
        ∗ (∃ d, owns (c : Thread nD τ) (at4 a t) fullShare ((dats a m ρ 0 c).before (4 : Fin 5) t d)))
      ⊢ wp frame (wpE (defs₀ (F := F)) Variants.none c none) Set.univ
          (cc0__experts_kernel ((cfgA a).grid.coords t) expertTable (Memref.isWhole_whole _) countTable (Memref.isWhole_whole _)
            (at0 a t) (hstage0_0 (((cfgA a).slots t (0 : Fin 5)).cast nbuf0_0)) (at1 a t) (hstage0_1 (((cfgA a).slots t (1 : Fin 5)).cast nbuf0_1))
            (at2 a t) (hstage0_2 (((cfgA a).slots t (2 : Fin 5)).cast nbuf0_2)) (at3 a t) (hstage0_3 (((cfgA a).slots t (3 : Fin 5)).cast nbuf0_3))
            (at4 a t) (hstage0_4 (((cfgA a).slots t (4 : Fin 5)).cast nbuf0_4))) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [never_idle a t]
  simp only [before0, before1, before2, before3, after0, after1, after2, after3, after4]
  rewrite [show (dats a m ρ 0 c).Φ t.succ = kept a c from rfl, show (dats a m ρ 0 c).Φ t.castSucc = kept a c from rfl,
    show (dats a m ρ 0 c).owesAt () t.succ = (dats a m ρ 0 c).owesAt () t.castSucc from rfl]
  unfold kept
  iintro ⟨⟨HT0, HT1⟩, Ho, ⟨%d0, H0⟩, ⟨%d1, H1⟩, ⟨%d2, H2⟩, ⟨%d3, H3⟩, ⟨%d4, H4⟩⟩
  iapply (body c ((cfgA a).grid.coords t) (at0 a t) (hstage0_0 (((cfgA a).slots t (0 : Fin 5)).cast nbuf0_0)) (at1 a t) (hstage0_1 (((cfgA a).slots t (1 : Fin 5)).cast nbuf0_1))
    (at2 a t) (hstage0_2 (((cfgA a).slots t (2 : Fin 5)).cast nbuf0_2)) (at3 a t) (hstage0_3 (((cfgA a).slots t (3 : Fin 5)).cast nbuf0_3))
    (at4 a t) (hstage0_4 (((cfgA a).slots t (4 : Fin 5)).cast nbuf0_4)) (experts a) (used a)
    (block a m ρ c (0 : Fin 5) t) (block a m ρ c (1 : Fin 5) t) (block a m ρ c (2 : Fin 5) t) (block a m ρ c (3 : Fin 5) t) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

theorem obligation : BodyObligation (dats a m ρ 0 c) (defs₀ (F := F)) Variants.none () Set.univ := fun t => by
  rw [bigSep_W0]
  exact sound a m ρ c t

/-! ## The launch -/

theorem whole_share (w : Fin (cfgA a).W) : (dats a m ρ 0 c).share w = fullShare := by unfold Dat.share; split <;> rfl

theorem tables_held (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- At the end every array holds what the points wrote back, and the tables what they held. -/
def ends : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run (h : ∀ (c : Dev nD) (j : Fin 2), m ((c : Thread nD τ).loc (pre0.ref j)) = a.1 j) :
    θ_run (defs (F := F)) (onTc (τ := τ) (main (F := F))) (s₀ m ρ) (fun r => ends a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (emb₁ : Emb (UR sig nD τ) 𝕄) defs₀ Variants.none m ρ main
    (hbody := fun c => (obligation a m ρ c).loose) (hne := (launch0 (F := F)).block_pos)
    (harr := (launch0 (F := F)).arr_whole) (hstage := (launch0 (F := F)).stage_whole) (howed := fun _ _ => rfl)
    (u₀ := initOf (Pipeline.cells (Pipeline.pin (pcfgs (F := F)) fun _ => a) ((launch0 (F := F)).cellOf_inj fun _ => a))
      (Pipeline.launchToks (Pipeline.pin (pcfgs (F := F)) fun _ => a) ((launch0 (F := F)).cellOf_inj fun _ => a))) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (Pipeline.pin (pcfgs (F := F)) fun _ => a) (dats a m ρ) 0 (launch0 (F := F)).win.arr_inj c (launch0 (F := F)).arr_whole
      (whole_share a m ρ c) _ _ fun _ => rfl)
    (hpf := h)
    (X := fun _ => iprop(emp)) (Y := fun _ => iprop(emp)) (Z := fun _ => iprop(emp))
    (hX := fun c => by rw [unscopedRestP0_eq]; iintro -; isplitr <;> iempintro)
    (hin := fun c => by
      rw [tables_held, scopedRest0_eq, show (dats a m ρ 0 c).Φ 0 = kept a c from rfl]
      unfold kept
      iintro ⟨-, ⟨HT0, HT1⟩, -⟩
      isplitl [HT0]
      · iexact HT0
      iexact HT1)
    (hout := fun c => by
      rw [scopedRest0_eq, show (dats a m ρ 0 c).Φ (Fin.last (cfgA a).N) = kept a c from rfl]
      unfold kept
      iintro ⟨-, -⟩
      isplitr; · iempintro
      iempintro)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem arguments (h : ∀ (c : Dev nD) (j : Fin 2), m ((c : Thread nD τ).loc (pre0.ref j)) = a.1 j) (r : PUnit × MemSt nD τ sig (Elt F))
    (e : ends a m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((e c).1 (0 : Fin 5)).trans ((dats a m ρ 0 c).arrAt_in (0 : Fin 5) rfl _), ((e c).2 0).trans (h c 0).symm, ((e c).2 1).trans (h c 1).symm,
    ((e c).1 (1 : Fin 5)).trans ((dats a m ρ 0 c).arrAt_in (1 : Fin 5) rfl _), ((e c).1 (2 : Fin 5)).trans ((dats a m ρ 0 c).arrAt_in (2 : Fin 5) rfl _),
    ((e c).1 (3 : Fin 5)).trans ((dats a m ρ 0 c).arrAt_in (3 : Fin 5) rfl _)⟩

end Cert.ExpertsRun

end
-- ==== Proof.ExpertsTables.lean ====
/- The experts' tables hold experts below 64 and a count of blocks between 1 and 576.

   So every block that the kernel's windows name lies inside its array, and the kernel runs. -/
module

public import proofs.«01_k».proof.Proof.ExpertsRun
public import proofs.«01_k».proof.Pre_tables_in_range
public import proofs.«01_k».proof.Proof.Gen.Pre_tables_in_range
public import Idealize.ShloMosaic.Lib.Pointwise
public import Idealize.ShloMosaic.Lib.ReduceAll

@[expose] public section

set_option maxRecDepth 16384

noncomputable section

namespace Cert.ExpertsTables

open Cert.ExpertsIdeal Cert.ExpertsIdeal.Gen
open Idealize.ShloMosaic Idealize.ShloMosaic.TcCoe

/-- What the precondition says of the tables. -/
structure InRange (e : S576.Idx → BitVec 32) (n : S1.Idx → BitVec 32) : Prop where
  expert : ∀ b, (e b).toNat < 64
  one_le : ∀ k, 1 ≤ (n k).toNat
  le : ∀ k, (n k).toNat ≤ 576

/-- A word that is not negative and at most a small number, as signed numbers go. -/
theorem small_of_signed (x lo hi : BitVec 32) (hlo : lo.toNat < 2 ^ 31) (hhi : hi.toNat < 2 ^ 31) (h1 : (lo.sle x) = true) (h2 : (x.sle hi) = true) :
    lo.toNat ≤ x.toNat ∧ x.toNat ≤ hi.toNat := by
  rw [BitVec.sle_iff_toInt_le] at h1 h2
  rw [BitVec.toInt_eq_toNat_cond, BitVec.toInt_eq_toNat_cond] at h1 h2
  have := x.isLt
  split at h1 <;> split at h1 <;> split at h2 <;> split at h2 <;> omega

theorem true_of {b : Bool} (h : BitVec.ofBool b = 1#1) : b = true := by
  cases b
  · exact absurd h (by decide)
  · rfl

theorem of_pre {F : FTy → Type} [FloatOps F] (x : FVec F S147456x1024 .f32) (e : IVec S576 32) (n : IVec S1 32) (g u : FVec F S64x1024x256 .bf16)
    (d : FVec F S64x256x1024 .bf16) (h : Pre_tables_in_range.fn x e n g u d = fun _ => 1#1) : InRange e n := by
  have h0 := congrFun h (fun a => a.elim0)
  dsimp only [Pre_tables_in_range.fn, andi] at h0
  obtain ⟨he, hn⟩ := IntOp.andi_eq_one.1 h0
  have hE : ∀ b, 0 ≤ (e b).toNat ∧ (e b).toNat ≤ 63 := fun b => by
    obtain ⟨h1, h2⟩ := IntOp.andi_eq_one.1 (Host.reduce_andi_all _ _ _ _ _ he b)
    refine small_of_signed (e b) 0#32 63#32 (by decide) (by decide) ?_ ?_
    · exact true_of h1
    · have h3 : (e b).slt 64#32 = true := true_of h2
      rw [BitVec.slt_iff_toInt_lt] at h3
      rw [BitVec.sle_iff_toInt_le]
      have e1 : (64#32 : BitVec 32).toInt = 64 := by decide
      have e2 : (63#32 : BitVec 32).toInt = 63 := by decide
      omega
  have hN : ∀ k, 1 ≤ (n k).toNat ∧ (n k).toNat ≤ 576 := fun k => by
    obtain ⟨h1, h2⟩ := IntOp.andi_eq_one.1 (Host.reduce_andi_all _ _ _ _ _ hn k)
    refine small_of_signed (n k) 1#32 576#32 (by decide) (by decide) ?_ ?_
    · exact true_of h1
    · exact true_of h2
  exact ⟨fun b => by have := hE b; omega, fun k => (hN k).1, fun k => (hN k).2⟩

/-! ## The blocks that the windows name -/

section
variable {F : FTy → Type} [FloatOps F] (pf : pre0.Contents (Elt F))

/-- The tables' words. -/
abbrev expertAt (b : Fin 576) : BitVec 32 := pf 0 (ix1 b)
abbrev countOf : BitVec 32 := pf 1 (ix1 (0 : Fin 1))

theorem ofNat_toNat (b : Fin 576) : (BitVec.ofNat 32 b.val).toNat = b.val := by
  rw [BitVec.toNat_ofNat]
  exact Nat.mod_eq_of_lt (by omega)

/-- The rows of a used block are its own, and those of an unused one the last used block's. -/
theorem rows_block (h : 1 ≤ (countOf pf).toNat) (h' : (countOf pf).toNat ≤ 576) (i : grid0.Coords) :
    cc0_transform_0 inb_S1_S1_0 numel1_S1 pf i = ![min (i 0).val ((countOf pf).toNat - 1), 0] := by
  have hw : pf.at 1 (Rect.unit (s := S1) ![0] S1.size inb_S1_S1_0) numel1_S1 = countOf pf :=
    congrArg (pf 1) (funext fun a => Fin.ext (by fin_cases a; rfl))
  unfold cc0_transform_0
  dsimp only
  rw [hw]
  have hi : (i 0).val < 576 := (i 0).isLt
  have hs : (Scalar.subi (countOf pf) 1#32).toNat = (countOf pf).toNat - 1 := by
    show (countOf pf - 1#32).toNat = _
    rw [BitVec.toNat_sub]
    have : (1#32 : BitVec 32).toNat = 1 := rfl
    omega
  have hm : (Scalar.minsi (BitVec.ofNat 32 (i 0).val) (Scalar.subi (countOf pf) 1#32)).toNat = min (i 0).val ((countOf pf).toNat - 1) := by
    show (IntOp.minsi _ _).toNat = _
    unfold IntOp.minsi
    have hb : (BitVec.ofNat 32 (i 0).val).toNat = (i 0).val := ofNat_toNat (i 0)
    split
    · rename_i hlt
      rw [BitVec.slt_iff_toInt_lt, BitVec.toInt_eq_toNat_cond, BitVec.toInt_eq_toNat_cond, hb, hs] at hlt
      rw [hb]
      split at hlt <;> split at hlt <;> omega
    · rename_i hlt
      rw [BitVec.slt_iff_toInt_lt, BitVec.toInt_eq_toNat_cond, BitVec.toInt_eq_toNat_cond, hb, hs] at hlt
      rw [hs]
      split at hlt <;> split at hlt <;> omega
  rw [hm]
  rfl

theorem word_at (i : grid0.Coords) :
    pf.at 0 (Rect.unit (s := S576) ![(Scalar.indexCast (BitVec.ofNat 32 (i 0).val) : Index).toNat] S1.size (k0_off1_inb i)) numel1_S1 = expertAt pf (i 0) :=
  congrArg (pf 0) (funext fun a => Fin.ext (by
    fin_cases a
    exact (Nat.add_zero _).trans (ofNat_toNat (i 0))))

/-- The weights are those of the block's expert. -/
theorem gate_block (i : grid0.Coords) : cc0_transform_1 k0_off1_inb numel1_S1 pf i = ![(expertAt pf (i 0)).toNat, 0, 0] := by
  unfold cc0_transform_1
  dsimp only
  rw [word_at]
  rfl
theorem up_block (i : grid0.Coords) : cc0_transform_2 k0_off1_inb numel1_S1 pf i = ![(expertAt pf (i 0)).toNat, 0, 0] := gate_block pf i
theorem down_block (i : grid0.Coords) : cc0_transform_3 k0_off1_inb numel1_S1 pf i = ![(expertAt pf (i 0)).toNat, 0, 0] := gate_block pf i

theorem ok (h : InRange (pf 0) (pf 1)) : ok0 pf := by
  have h1 := h.one_le (ix1 (0 : Fin 1))
  have h2 := h.le (ix1 (0 : Fin 1))
  refine ⟨fun i => ⟨fun a => ?_, .inl rfl⟩,
    fun i => ⟨fun a => ?_, .inr (Affine.block_words_dvd (s := S64x1024x256) (p := EltTy.packing .bf16) (by decide) (by decide))⟩,
    fun i => ⟨fun a => ?_, .inr (Affine.block_words_dvd (s := S64x1024x256) (p := EltTy.packing .bf16) (by decide) (by decide))⟩,
    fun i => ⟨fun a => ?_, .inr (Affine.block_words_dvd (s := S64x256x1024) (p := EltTy.packing .bf16) (by decide) (by decide))⟩⟩
  · rw [rows_block pf h1 h2]
    have hi : (i 0).val < 576 := (i 0).isLt
    fin_cases a
    · show (min (i 0).val ((countOf pf).toNat - 1) + 1) * 256 ≤ 147456
      omega
    · show (0 + 1) * 1024 ≤ 1024
      omega
  · rw [gate_block]
    have he : (expertAt pf (i 0)).toNat < 64 := h.expert _
    fin_cases a
    · show ((expertAt pf (i 0)).toNat + 1) * 1 ≤ 64
      omega
    · show (0 + 1) * 1024 ≤ 1024
      omega
    · show (0 + 1) * 256 ≤ 256
      omega
  · rw [up_block]
    have he : (expertAt pf (i 0)).toNat < 64 := h.expert _
    fin_cases a
    · show ((expertAt pf (i 0)).toNat + 1) * 1 ≤ 64
      omega
    · show (0 + 1) * 1024 ≤ 1024
      omega
    · show (0 + 1) * 256 ≤ 256
      omega
  · rw [down_block]
    have he : (expertAt pf (i 0)).toNat < 64 := h.expert _
    fin_cases a
    · show ((expertAt pf (i 0)).toNat + 1) * 1 ≤ 64
      omega
    · show (0 + 1) * 256 ≤ 256
      omega
    · show (0 + 1) * 1024 ≤ 1024
      omega

/-- The tables of a memory in range. -/
def tables (m : (ℓ : Loc nD τ sig) → Buf (Elt F) ℓ) (h : ∀ c : Dev nD, InRange (m ((c.tc : Thread nD τ).loc main_arg1)) (m ((c.tc : Thread nD τ).loc main_arg2))) :
    (pcfg0 (F := F)).Adm :=
  ⟨fun j => m (((0 : Dev nD).tc : Thread nD τ).loc (pre0.ref j)), ok _ (h 0)⟩

/-- From a memory in range the kernel ends, and leaves the arguments as they were. -/
theorem frame (m : (ℓ : Loc nD τ sig) → Buf (Elt F) ℓ) (ρ : Dev nD → PrngReg)
    (h : ∀ c : Dev nD, InRange (m ((c.tc : Thread nD τ).loc main_arg1)) (m ((c.tc : Thread nD τ).loc main_arg2))) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  have hm : ∀ (c : Dev nD) (j : Fin 2), m ((c : Thread nD τ).loc (pre0.ref j)) = (tables m h).1 j := fun c j => by
    rw [Subsingleton.elim c 0]; rfl
  (θ_run defs _ _).mono (fun r e => ⟨fun c => ExpertsRun.arguments (tables m h) m ρ hm r e.1 c, e.2⟩) (ExpertsRun.run (tables m h) m ρ hm)

end

end Cert.ExpertsTables

end
-- ==== Proof.ExpertsSame.lean ====
/- The experts' kernel before and after it is read over the extended reals is one program, so what is proved of the one at
   any arithmetic holds of the other at the bits' arithmetic. -/
module

public import proofs.«01_k».proof.Defs
public import proofs.«01_k».proof.Proof.ExpertsTables
public import proofs.«01_k».proof.Proof.Gen.Experts

@[expose] public section

set_option maxRecDepth 16384

noncomputable section

namespace Cert.ExpertsSame

open Idealize.ShloMosaic Idealize.ShloMosaic.TcCoe

set_option maxHeartbeats 4000000 in
/-- The two kernels answer the same calls, -/
theorem same_calls : Cert.Experts.defs₀ (F := Bits) = Cert.ExpertsIdeal.defs₀ (F := Bits) := by
  unfold Cert.Experts.defs₀ Cert.ExpertsIdeal.defs₀
  refine congrArg Defs.onTc (funext fun l => funext fun p => ?_)
  match l, p with
  | ⟨0, _⟩, (t, s) => rfl

/-- and so do their launches. -/
theorem same_defs : Cert.Experts.defs (F := Bits) = Cert.ExpertsIdeal.defs (F := Bits) :=
  congrArg (Pipeline.defs (Cert.ExpertsIdeal.pcfgs (F := Bits))) same_calls

/-- From tables in range the kernel ends, and leaves the arguments as they were. -/
theorem frame : Cert.quiescent_Experts (hExperts := Experts.Gen.facts) (hPre_tables_in_range := Pre_tables_in_range.Gen.facts) := fun m g h => by
  have h0 := Cert.ExpertsTables.frame (F := Bits) m g (fun c => Cert.ExpertsTables.of_pre _ _ _ _ _ _ (h c))
  rw [← same_defs] at h0
  exact h0

end Cert.ExpertsSame

end
-- ==== Proof.ExpertsBlock.lean ====
/- What a point of the experts' kernel stores, entry by entry: the feed-forward of its rows.

   A row's entries are multiplied with the gate's and the up-projection's weights; the gate's sum times its own logistic
   times the other sum is the hidden entry, and the hidden entries are multiplied with the down-projection's weights. -/
module

public import proofs.«01_k».proof.Proof.ExpertsRun
public import Idealize.ShloMosaic.Lib.Pointwise
public import Idealize.ShloMosaic.Lib.MatmulPlain
public import Idealize.ShloMosaic.Lib.ValueLayout
public import Idealize.ShloMosaic.Lib.StableHlo.Predicate

@[expose] public section

set_option maxRecDepth 16384

noncomputable section

namespace Cert.ExpertsBlock

open Idealize.ShloMosaic Idealize.ShloMosaic.TcCoe Cert.ExpertsIdeal Cert.ExpertsIdeal.Gen
open scoped BigOperators

/-- The hidden entry of a row `x` under the columns `g` of the gate and `u` of the up-projection. -/
def gated (x g u : Fin 1024 → EReal) : EReal := (∑ k, x k * g k) * Ideal.logistic (∑ k, x k * g k) * ∑ k, x k * u k

/-- An entry of the feed-forward of a row, under the column `d` of the down-projection. -/
def feed (x : Fin 1024 → EReal) (g u : Fin 256 → Fin 1024 → EReal) (d : Fin 256 → EReal) : EReal := ∑ f, gated x (g f) (u f) * d f

/-- A product into a zero accumulator, with the weights' one leading axis dropped. -/
theorem wide (x : FVec Ideal S256x1024 .bf16) (w : FVec Ideal S1x1024x256 .bf16) (r f : Fin 256) :
    matmul dot_S256x1024_S1024x256_S256x256_1_0_0_1_n_n none x (shapeCast S1024x256 w shapeCasts_S1x1024x256_S1024x256)
        (constant S256x256 .f32 0x00000000#32) (ix2 r f) = ∑ k : Fin 1024, x (ix2 r k) * w (ix3 (0 : Fin 1) k f) := by
  refine (Ideal.matmul_plain_apply (M := 256) (K := 1024) (N := 256) none x _ _ r f).trans ?_
  refine (congrArg₂ (· + ·) Ideal.ofBits_zero_f32 rfl).trans ((zero_add _).trans ?_)
  exact Finset.sum_congr rfl fun k _ => congrArg (x (ix2 r k) * ·) (ValueIdx.shapeCast_1ab_ab_apply w _ k f)

theorem narrow (x : FVec Ideal S256x256 .bf16) (w : FVec Ideal S1x256x1024 .bf16) (r : Fin 256) (k : Fin 1024) :
    matmul dot_S256x256_S256x1024_S256x1024_1_0_0_1_n_n none x (shapeCast S256x1024 w shapeCasts_S1x256x1024_S256x1024)
        (constant S256x1024 .f32 0x00000000#32) (ix2 r k) = ∑ f : Fin 256, x (ix2 r f) * w (ix3 (0 : Fin 1) f k) := by
  refine (Ideal.matmul_plain_apply (M := 256) (K := 256) (N := 1024) none x _ _ r k).trans ?_
  refine (congrArg₂ (· + ·) Ideal.ofBits_zero_f32 rfl).trans ((zero_add _).trans ?_)
  exact Finset.sum_congr rfl fun f _ => congrArg (x (ix2 r f) * ·) (ValueIdx.shapeCast_1ab_ab_apply w _ f k)

/-- A used block's store. -/
theorem used_apply (x : Vec Ideal S256x1024 .f32) (g u : Vec Ideal S1x1024x256 .bf16) (d : Vec Ideal S1x256x1024 .bf16) (r : Fin 256) (k : Fin 1024) :
    k0_pay1 x g u d (ix2 r k) = feed (fun q => x (ix2 r q)) (fun f q => g (ix3 (0 : Fin 1) q f)) (fun f q => u (ix3 (0 : Fin 1) q f))
      (fun f => d (ix3 (0 : Fin 1) f k)) := by
  refine (narrow _ d r k).trans (Finset.sum_congr rfl fun f _ => congrArg (· * d (ix3 (0 : Fin 1) f k)) ?_)
  have hg := wide (truncf .bf16 x bitsLt_bf16_f32) g r f
  have hu := wide (truncf .bf16 x bitsLt_bf16_f32) u r f
  exact congrArg₂ (fun a b : EReal => a * Ideal.logistic a * b) hg hu

/-- An unused block's store. -/
theorem unused_apply (i : S256x1024.Idx) : (k0_pay2 : FVec Ideal S256x1024 .f32) i = 0 := Ideal.ofBits_zero_f32

/-- Small words compare as signed words as their numbers do. -/
theorem slt_small (b : Fin 576) (n : BitVec 32) (hn : n.toNat ≤ 576) : (BitVec.ofNat 32 b.val).slt n = decide (b.val < n.toNat) := by
  rw [Bool.eq_iff_iff, decide_eq_true_iff, BitVec.slt_iff_toInt_lt, BitVec.toInt_eq_toNat_cond, BitVec.toInt_eq_toNat_cond,
    BitVec.toNat_ofNat, Nat.mod_eq_of_lt (show b.val < 2 ^ 32 by omega)]
  split <;> split <;> omega

/-- The kernel's test is whether the point is below the count. -/
theorem below_iff (i : grid0.Coords) (n : BitVec 32) (hn : n.toNat ≤ 576) : k0_cond1 i n = 1#1 ↔ (i 0).val < n.toNat := by
  unfold k0_cond1
  simp only [Scalar.cmpi, Scalar.extui, IntOp.cmpi]
  rw [slt_small (i 0) n hn]
  by_cases h : (i 0).val < n.toNat <;> simp [h]

end Cert.ExpertsBlock

end
-- ==== Proof.ExpertsArray.lean ====
/- The array the experts' kernel leaves: every used block's rows fed forward under the block's expert, every unused one's zero. -/
module

public import proofs.«01_k».proof.Proof.ExpertsBlock
public import proofs.«01_k».proof.Proof.ExpertsTables
public import Idealize.ShloMosaic.Lib.Pipeline.ValueKit
public import Idealize.ShloMosaic.Lib.Pipeline.Value

@[expose] public section

set_option maxRecDepth 16384

noncomputable section

namespace Cert.ExpertsArray

open Idealize.ShloMosaic Idealize.ShloMosaic.TcCoe Cert.ExpertsIdeal Cert.ExpertsIdeal.Gen
open Idealize.ShloMosaic.Pipeline (Dat Cfg Window)
open Cert.ExpertsRun Cert.ExpertsTables Cert.ExpertsBlock

/-! ## The result -/

/-- The expert a word names. -/
def expertOf (w : BitVec 32) : Fin 64 := ⟨w.toNat % 64, Nat.mod_lt _ (by decide)⟩

/-- A row among the 256 of a block. -/
def rowOf (b : Fin 576) (r : Fin 256) : Fin 147456 := ⟨b.val * 256 + r.val, by omega⟩

/-- An entry of a block's feed-forward under its expert, or zero when the block is not used. -/
def entry (x : FVec Ideal S147456x1024 .f32) (e : IVec S576 32) (n : IVec S1 32) (g u : FVec Ideal S64x1024x256 .bf16) (d : FVec Ideal S64x256x1024 .bf16)
    (b : Fin 576) (r : Fin 256) (k : Fin 1024) : EReal :=
  if b.val < (n (ix1 (0 : Fin 1))).toNat then
    feed (fun q => x (ix2 (rowOf b r) q)) (fun f q => g (ix3 (expertOf (e (ix1 b))) q f)) (fun f q => u (ix3 (expertOf (e (ix1 b))) q f))
      (fun f => d (ix3 (expertOf (e (ix1 b))) f k))
  else 0

/-- Every row's entries. -/
def result (x : FVec Ideal S147456x1024 .f32) (e : IVec S576 32) (n : IVec S1 32) (g u : FVec Ideal S64x1024x256 .bf16) (d : FVec Ideal S64x256x1024 .bf16) :
    FVec Ideal S147456x1024 .f32 := fun j =>
  entry x e n g u d ⟨(j 0).val / 256, by have h : (j 0).val < 147456 := (j 0).isLt; omega⟩ ⟨(j 0).val % 256, Nat.mod_lt _ (by decide)⟩ (j 1)

theorem result_row (x : FVec Ideal S147456x1024 .f32) (e : IVec S576 32) (n : IVec S1 32) (g u : FVec Ideal S64x1024x256 .bf16)
    (d : FVec Ideal S64x256x1024 .bf16) (b : Fin 576) (r : Fin 256) (k : Fin 1024) :
    result x e n g u d (ix2 (rowOf b r) k) = entry x e n g u d b r k :=
  congrArg₂ (fun b r => entry x e n g u d b r k) (Fin.ext (by show (b.val * 256 + r.val) / 256 = b.val; omega))
    (Fin.ext (by show (b.val * 256 + r.val) % 256 = r.val; omega))

/-! ## The kernel's blocks -/

variable (a : (pcfg0 (F := Ideal)).Adm) (h : InRange (a.1 0) (a.1 1)) (m : (ℓ : Loc nD τ sig) → Buf (Elt Ideal) ℓ) (ρ : Dev nD → PrngReg)
variable (c : Dev nD) (t : Fin (cfgA a).N)

/-- The block of rows a point works on. -/
abbrev pointOf : Fin 576 := (cfgA a).grid.coords t 0

include h in
/-- A used point's block of rows is its own. -/
theorem rows_at (hu : (pointOf a t).val < (countOf a.1).toNat) (r : Fin 256) (k : Fin 1024) :
    block a m ρ c (0 : Fin 5) t (ix2 r k) = m ((c : Thread nD τ).loc main_arg0) (ix2 (rowOf (pointOf a t) r) k) := by
  refine congrArg (m ((c : Thread nD τ).loc main_arg0)) (funext fun b => Fin.ext ?_)
  refine (Window.rect_emb_val ((cfgA a).win (0 : Fin 5)) t (ix2 r k) b rfl).trans ?_
  have e : ((cfgA a).win (0 : Fin 5)).index t = ![(pointOf a t).val, 0] :=
    (rows_block a.1 (h.one_le _) (h.le _) ((cfgA a).grid.coords t)).trans (by
      have : min (pointOf a t).val ((countOf a.1).toNat - 1) = (pointOf a t).val := by omega
      rw [this])
  rw [e]
  match b with
  | ⟨0, _⟩ => rfl
  | ⟨1, _⟩ => exact (congrArg (· + _) (Nat.zero_mul _)).trans (Nat.zero_add _)

/-- The expert of a point, whose word is in range. -/
theorem expert_val (h : InRange (a.1 0) (a.1 1)) : (expertAt a.1 (pointOf a t)).toNat = (expertOf (expertAt a.1 (pointOf a t))).val :=
  (Nat.mod_eq_of_lt (h.expert _)).symm

include h in
/-- Its three blocks of weights are its expert's. -/
theorem gate_at (k : Fin 1024) (f : Fin 256) :
    block a m ρ c (1 : Fin 5) t (ix3 (0 : Fin 1) k f) = m ((c : Thread nD τ).loc main_arg3) (ix3 (expertOf (expertAt a.1 (pointOf a t))) k f) := by
  refine congrArg (m ((c : Thread nD τ).loc main_arg3)) (funext fun b => Fin.ext ?_)
  refine (Window.rect_emb_val ((cfgA a).win (1 : Fin 5)) t (ix3 (0 : Fin 1) k f) b rfl).trans ?_
  have e : ((cfgA a).win (1 : Fin 5)).index t = ![(expertOf (expertAt a.1 (pointOf a t))).val, 0, 0] :=
    (gate_block a.1 ((cfgA a).grid.coords t)).trans (congrArg (![·, 0, 0]) (expert_val a t h))
  rw [e]
  match b with
  | ⟨0, _⟩ => exact (Nat.add_zero _).trans (Nat.mul_one _)
  | ⟨1, _⟩ => exact (congrArg (· + _) (Nat.zero_mul _)).trans (Nat.zero_add _)
  | ⟨2, _⟩ => exact (congrArg (· + _) (Nat.zero_mul _)).trans (Nat.zero_add _)

include h in
theorem up_at (k : Fin 1024) (f : Fin 256) :
    block a m ρ c (2 : Fin 5) t (ix3 (0 : Fin 1) k f) = m ((c : Thread nD τ).loc main_arg4) (ix3 (expertOf (expertAt a.1 (pointOf a t))) k f) := by
  refine congrArg (m ((c : Thread nD τ).loc main_arg4)) (funext fun b => Fin.ext ?_)
  refine (Window.rect_emb_val ((cfgA a).win (2 : Fin 5)) t (ix3 (0 : Fin 1) k f) b rfl).trans ?_
  have e : ((cfgA a).win (2 : Fin 5)).index t = ![(expertOf (expertAt a.1 (pointOf a t))).val, 0, 0] :=
    (up_block a.1 ((cfgA a).grid.coords t)).trans (congrArg (![·, 0, 0]) (expert_val a t h))
  rw [e]
  match b with
  | ⟨0, _⟩ => exact (Nat.add_zero _).trans (Nat.mul_one _)
  | ⟨1, _⟩ => exact (congrArg (· + _) (Nat.zero_mul _)).trans (Nat.zero_add _)
  | ⟨2, _⟩ => exact (congrArg (· + _) (Nat.zero_mul _)).trans (Nat.zero_add _)

include h in
theorem down_at (f : Fin 256) (k : Fin 1024) :
    block a m ρ c (3 : Fin 5) t (ix3 (0 : Fin 1) f k) = m ((c : Thread nD τ).loc main_arg5) (ix3 (expertOf (expertAt a.1 (pointOf a t))) f k) := by
  refine congrArg (m ((c : Thread nD τ).loc main_arg5)) (funext fun b => Fin.ext ?_)
  refine (Window.rect_emb_val ((cfgA a).win (3 : Fin 5)) t (ix3 (0 : Fin 1) f k) b rfl).trans ?_
  have e : ((cfgA a).win (3 : Fin 5)).index t = ![(expertOf (expertAt a.1 (pointOf a t))).val, 0, 0] :=
    (down_block a.1 ((cfgA a).grid.coords t)).trans (congrArg (![·, 0, 0]) (expert_val a t h))
  rw [e]
  match b with
  | ⟨0, _⟩ => exact (Nat.add_zero _).trans (Nat.mul_one _)
  | ⟨1, _⟩ => exact (congrArg (· + _) (Nat.zero_mul _)).trans (Nat.zero_add _)
  | ⟨2, _⟩ => exact (congrArg (· + _) (Nat.zero_mul _)).trans (Nat.zero_add _)

/-- The count the body reads is the table's word. -/
theorem count_eq : count (used a) = countOf a.1 :=
  congrArg (a.1 1) (funext fun b => Fin.ext (by fin_cases b; rfl))

/-- The result of the arguments at the start, under the tables `a`. -/
abbrev array : FVec Ideal S147456x1024 .f32 :=
  result (m ((c : Thread nD τ).loc main_arg0)) (a.1 0) (a.1 1) (m ((c : Thread nD τ).loc main_arg3)) (m ((c : Thread nD τ).loc main_arg4))
    (m ((c : Thread nD τ).loc main_arg5))

include h in
/-- A point stores its block of the result. -/
theorem out_at (r : Fin 256) (k : Fin 1024) : out a m ρ c t (ix2 r k) = array a m c (ix2 (rowOf (pointOf a t) r) k) := by
  refine Eq.trans ?_ (result_row _ _ _ _ _ _ (pointOf a t) r k).symm
  unfold out stored entry
  rw [count_eq]
  by_cases hu : (pointOf a t).val < (countOf a.1).toNat
  · rw [if_pos ((below_iff _ _ (h.le _)).2 hu), if_pos hu, used_apply]
    simp only [rows_at a h m ρ c t hu, gate_at a h m ρ c t, up_at a h m ρ c t, down_at a h m ρ c t]
  · rw [if_neg (fun h1 => hu ((below_iff _ _ (h.le _)).1 h1)), if_neg hu]
    exact unused_apply _

theorem coords_val : ∀ t : Fin grid0.N, (grid0.coords t 0).val = t.val := by decide +kernel

/-- The output's blocks follow the points. -/
theorem out_index : ((cfgA a).win (4 : Fin 5)).index t = ![(pointOf a t).val, 0] := by
  refine (show _ = ![(BitVec.ofNat 32 (pointOf a t).val).toNat, 0] from rfl).trans ?_
  rw [ofNat_toNat]

include h in
/-- So the block written back is that block of the result. -/
theorem flushed_eq : (dats a m ρ 0 c).flushed (4 : Fin 5) t = (((cfgA a).win (4 : Fin 5)).blk t).view.read (Elt Ideal) (array a m c) := by
  funext j
  refine (out_at a h m ρ c t (j 0) (j 1) : _ = _) |> Eq.trans ?_ |> Eq.trans <| ?_
  · exact congrArg (out a m ρ c t) (funext fun b => by match b with | ⟨0, _⟩ => rfl | ⟨1, _⟩ => rfl)
  · refine congrArg (array a m c) (funext fun b => Fin.ext ?_)
    refine Eq.symm ((Window.rect_emb_val ((cfgA a).win (4 : Fin 5)) t j b rfl).trans ?_)
    rw [out_index]
    match b with
    | ⟨0, _⟩ => rfl
    | ⟨1, _⟩ => exact (congrArg (· + _) (Nat.zero_mul _)).trans (Nat.zero_add _)

/-- Every index of the array is in the block of its row. -/
theorem cover (i : S147456x1024.Idx) : ∃ t : Fin (cfgA a).N, ((cfgA a).win (4 : Fin 5)).flush t = true ∧ i ∈ (((cfgA a).win (4 : Fin 5)).blk t).view.set := by
  have h0 : (i 0).val < 147456 := (i 0).isLt
  have h1 : (i 1).val < 1024 := (i 1).isLt
  have hN : grid0.N = 576 := N_0
  obtain ⟨t, ht⟩ : ∃ t : Fin grid0.N, t.val = (i 0).val / 256 := ⟨⟨(i 0).val / 256, by omega⟩, rfl⟩
  refine ⟨t, flushed a t, (Window.emb_mem_blk_iff ((cfgA a).win (4 : Fin 5)) t i rfl).2 fun b => ?_⟩
  rw [out_index a t, show (pointOf a t).val = (i 0).val / 256 from (coords_val t).trans ht]
  match b with
  | ⟨0, _⟩ =>
    show (i 0).val / 256 * 256 ≤ (i 0).val ∧ (i 0).val < (i 0).val / 256 * 256 + 256
    omega
  | ⟨1, _⟩ =>
    show 0 * 1024 ≤ (i 1).val ∧ (i 1).val < 0 * 1024 + 1024
    omega

include h in
/-- The array after the last point. -/
theorem arrAt_eq : (dats a m ρ 0 c).arrAt (4 : Fin 5) (cfgA a).N = array a m c :=
  (dats a m ρ 0 c).arrAt_eq_of_cover (4 : Fin 5) (array a m c) (fun t _ => flushed_eq a h m ρ c t) (cover a)

end Cert.ExpertsArray

end
-- ==== Proof.ExpertsReference.lean ====
/- The experts' reference, read at an entry: the feed-forward of the entry's row under its block's expert, or zero. -/
module

public import proofs.«01_k».proof.Proof.ExpertsArray
public import proofs.«01_k».proof.Proof.Gather
public import proofs.«01_k».proof.Proof.Gen.ExpertsReferenceIdeal.Read

@[expose] public section

set_option maxRecDepth 16384

noncomputable section

namespace Cert.ExpertsReference

open Idealize.ShloMosaic Idealize.ShloMosaic.TcCoe Cert.ExpertsReferenceIdeal Cert.ExpertsReferenceIdeal.Read
open Cert.ExpertsTables Cert.ExpertsBlock Cert.ExpertsArray
open scoped BigOperators

/-! ## The experts' weights, gathered by block -/

theorem wide_weights (x : S64x1024x256.Idx → EReal) (idx : IVec S576x1 32) (b : Fin 576) (k : Fin 1024) (f : Fin 256) (n : Fin 64)
    (hn : idx (ix2 b (0 : Fin 1)) = BitVec.ofNat 32 n.val) :
    Host.gather gather_S64x1024x256_S576x1_S576x1024x256_12_0_n_n_0_1_11024256 x idx (ix3 b k f) = x (ix3 n k f) := by
  refine Gather.gather_eq gather_S64x1024x256_S576x1_S576x1024x256_12_0_n_n_0_1_11024256 _ _ _ _ fun a => ?_
  match (a : Fin 3) with
  | 0 =>
    refine Gather.moved_axis gather_S64x1024x256_S576x1_S576x1024x256_12_0_n_n_0_1_11024256 idx (ix3 b k f) 0 (ix2 b (0 : Fin 1)) n.val ?_ ?_ ?_ (fun q => ?_) hn (by omega) (by
      show n.val ≤ 64 - 1; omega)
    · decide
    · decide
    · decide
    match (q : Fin 2) with
    | 0 => exact .inr ⟨0, by decide, by decide, rfl⟩
    | 1 => exact .inl ⟨rfl, rfl⟩
  | 1 => refine Gather.kept_axis gather_S64x1024x256_S576x1_S576x1024x256_12_0_n_n_0_1_11024256 idx (ix3 b k f) 1 1 ?_ ?_ ?_ ?_ <;> decide
  | 2 => refine Gather.kept_axis gather_S64x1024x256_S576x1_S576x1024x256_12_0_n_n_0_1_11024256 idx (ix3 b k f) 2 2 ?_ ?_ ?_ ?_ <;> decide

theorem narrow_weights (x : S64x256x1024.Idx → EReal) (idx : IVec S576x1 32) (b : Fin 576) (f : Fin 256) (k : Fin 1024) (n : Fin 64)
    (hn : idx (ix2 b (0 : Fin 1)) = BitVec.ofNat 32 n.val) :
    Host.gather gather_S64x256x1024_S576x1_S576x256x1024_12_0_n_n_0_1_12561024 x idx (ix3 b f k) = x (ix3 n f k) := by
  refine Gather.gather_eq gather_S64x256x1024_S576x1_S576x256x1024_12_0_n_n_0_1_12561024 _ _ _ _ fun a => ?_
  match (a : Fin 3) with
  | 0 =>
    refine Gather.moved_axis gather_S64x256x1024_S576x1_S576x256x1024_12_0_n_n_0_1_12561024 idx (ix3 b f k) 0 (ix2 b (0 : Fin 1)) n.val ?_ ?_ ?_ (fun q => ?_) hn (by omega) (by
      show n.val ≤ 64 - 1; omega)
    · decide
    · decide
    · decide
    match (q : Fin 2) with
    | 0 => exact .inr ⟨0, by decide, by decide, rfl⟩
    | 1 => exact .inl ⟨rfl, rfl⟩
  | 1 => refine Gather.kept_axis gather_S64x256x1024_S576x1_S576x256x1024_12_0_n_n_0_1_12561024 idx (ix3 b f k) 1 1 ?_ ?_ ?_ ?_ <;> decide
  | 2 => refine Gather.kept_axis gather_S64x256x1024_S576x1_S576x256x1024_12_0_n_n_0_1_12561024 idx (ix3 b f k) 2 2 ?_ ?_ ?_ ?_ <;> decide

/-- A word that is not negative is not wrapped, -/
theorem wrap_eq (w : BitVec 32) (h : w.toNat < 64) :
    Scalar.select (IntOp.cmpi .slt w 0#32) (IntOp.addi w 64#32) w = BitVec.ofNat 32 (expertOf w).val := by
  have h0 : w.slt 0#32 = false := by
    rw [Bool.eq_false_iff]
    intro h1
    rw [BitVec.slt_iff_toInt_lt, BitVec.toInt_eq_toNat_cond] at h1
    have e0 : (0#32 : BitVec 32).toInt = 0 := by decide
    rw [e0] at h1
    split at h1 <;> omega
  have hw : BitVec.ofNat 32 (expertOf w).val = w := by
    refine BitVec.eq_of_toNat_eq ?_
    rw [BitVec.toNat_ofNat]
    show w.toNat % 64 % 2 ^ 32 = w.toNat
    omega
  rw [hw]
  show Scalar.select (BitVec.ofBool (w.slt 0#32)) _ _ = _
  rw [h0]
  rfl

variable (x : FVec Ideal S147456x1024 .f32) (e : IVec S576 32) (n : IVec S1 32) (g u : FVec Ideal S64x1024x256 .bf16) (d : FVec Ideal S64x256x1024 .bf16)
variable (h : InRange e n)

include h in
/-- so the three index tables hold the blocks' experts. -/
theorem words (b : Fin 576) : val_main_v9 (F := Ideal) e (ix2 b (0 : Fin 1)) = BitVec.ofNat 32 (expertOf (e (ix1 b))).val
    ∧ val_main_v17 (F := Ideal) e (ix2 b (0 : Fin 1)) = BitVec.ofNat 32 (expertOf (e (ix1 b))).val
    ∧ val_main_v27 (F := Ideal) e (ix2 b (0 : Fin 1)) = BitVec.ofNat 32 (expertOf (e (ix1 b))).val := by
  have hw := wrap_eq (e (ix1 b)) (h.expert _)
  have hi : idx_main_v9 (ix2 b (0 : Fin 1)) = ix1 b := funext fun a => by match a with | ⟨0, _⟩ => rfl
  refine ⟨?_, ?_, ?_⟩
  · rw [val_main_v9_apply, hi, val_main_v8_apply, val_main_v5_apply, val_main_v7_apply, val_main_v4_apply, val_main_v6_apply]
    exact hw
  · rw [val_main_v17_apply, show idx_main_v17 (ix2 b (0 : Fin 1)) = ix1 b from hi, val_main_v16_apply, val_main_v13_apply, val_main_v15_apply,
      val_main_v12_apply, val_main_v14_apply]
    exact hw
  · rw [val_main_v27_apply, show idx_main_v27 (ix2 b (0 : Fin 1)) = ix1 b from hi, val_main_v26_apply, val_main_v23_apply, val_main_v25_apply,
      val_main_v22_apply, val_main_v24_apply]
    exact hw

include h in
theorem gate_weights (b : Fin 576) (k : Fin 1024) (f : Fin 256) : val_main_v10 (F := Ideal) e g (ix3 b k f) = g (ix3 (expertOf (e (ix1 b))) k f) :=
  wide_weights _ _ b k f _ (words e n h b).1

include h in
theorem up_weights (b : Fin 576) (k : Fin 1024) (f : Fin 256) : val_main_v18 (F := Ideal) e u (ix3 b k f) = u (ix3 (expertOf (e (ix1 b))) k f) :=
  wide_weights _ _ b k f _ (words e n h b).2.1

include h in
theorem down_weights (b : Fin 576) (f : Fin 256) (k : Fin 1024) : val_main_v28 (F := Ideal) e d (ix3 b f k) = d (ix3 (expertOf (e (ix1 b))) f k) :=
  narrow_weights _ _ b f k _ (words e n h b).2.2

/-! ## The sums -/

/-- The rows, stacked by block. -/
theorem rows_apply (b : Fin 576) (r : Fin 256) (k : Fin 1024) : val_main_v3 (F := Ideal) x (ix3 b r k) = x (ix2 (rowOf b r) k) := by
  rw [val_main_v3_apply]
  refine congrArg x (funext fun a => Fin.ext ?_)
  match a with
  | ⟨0, _⟩ =>
    show ((b.val * 256 + r.val) * 1024 + k.val) / 1024 = b.val * 256 + r.val
    omega
  | ⟨1, _⟩ =>
    show ((b.val * 256 + r.val) * 1024 + k.val) % 1024 = k.val
    omega

include h in
theorem gate_apply (b : Fin 576) (r f : Fin 256) :
    val_main_v11 (F := Ideal) x e g (ix3 b r f) = ∑ k, x (ix2 (rowOf b r) k) * g (ix3 (expertOf (e (ix1 b))) k f) := by
  rw [val_main_v11_apply]
  refine Finset.sum_congr rfl fun k _ => congrArg₂ (· * ·) ?_ ?_
  · exact (congrArg (val_main_v3 (F := Ideal) x) (funext fun a => by match a with | ⟨0, _⟩ => rfl | ⟨1, _⟩ => rfl | ⟨2, _⟩ => rfl)).trans (rows_apply x b r k)
  · exact (congrArg (val_main_v10 (F := Ideal) e g) (funext fun a => by match a with | ⟨0, _⟩ => rfl | ⟨1, _⟩ => rfl | ⟨2, _⟩ => rfl)).trans
      (gate_weights e n g h b k f)

include h in
theorem up_apply (b : Fin 576) (r f : Fin 256) :
    val_main_v19 (F := Ideal) x e u (ix3 b r f) = ∑ k, x (ix2 (rowOf b r) k) * u (ix3 (expertOf (e (ix1 b))) k f) := by
  rw [val_main_v19_apply]
  refine Finset.sum_congr rfl fun k _ => congrArg₂ (· * ·) ?_ ?_
  · exact (congrArg (val_main_v3 (F := Ideal) x) (funext fun a => by match a with | ⟨0, _⟩ => rfl | ⟨1, _⟩ => rfl | ⟨2, _⟩ => rfl)).trans (rows_apply x b r k)
  · exact (congrArg (val_main_v18 (F := Ideal) e u) (funext fun a => by match a with | ⟨0, _⟩ => rfl | ⟨1, _⟩ => rfl | ⟨2, _⟩ => rfl)).trans
      (up_weights e n u h b k f)

include h in
/-- The hidden entries; the reference writes the logistic out. -/
theorem gated_apply (b : Fin 576) (r f : Fin 256) :
    val_main_v21 (F := Ideal) x e g u (ix3 b r f)
      = gated (fun q => x (ix2 (rowOf b r) q)) (fun q => g (ix3 (expertOf (e (ix1 b))) q f)) (fun q => u (ix3 (expertOf (e (ix1 b))) q f)) := by
  rw [val_main_v21_apply, val_main_v20_apply, val_main_call0_v5_apply, val_main_call0_v4_apply, val_main_call0_cst_0_apply, val_main_call0_v3_apply,
    val_main_call0_v2_apply, val_main_call0_cst_apply, val_main_call0_v1_apply, val_main_call0_v0_apply, gate_apply x e n g h, up_apply x e n u h]
  unfold gated Ideal.logistic
  pointwise

include h in
theorem feed_apply (b : Fin 576) (r : Fin 256) (k : Fin 1024) :
    val_main_v29 (F := Ideal) x e g u d (ix3 b r k) = feed (fun q => x (ix2 (rowOf b r) q)) (fun f q => g (ix3 (expertOf (e (ix1 b))) q f))
      (fun f q => u (ix3 (expertOf (e (ix1 b))) q f)) (fun f => d (ix3 (expertOf (e (ix1 b))) f k)) := by
  rw [val_main_v29_apply]
  refine Finset.sum_congr rfl fun f _ => congrArg₂ (· * ·) ?_ ?_
  · exact (congrArg (val_main_v21 (F := Ideal) x e g u) (funext fun a => by match a with | ⟨0, _⟩ => rfl | ⟨1, _⟩ => rfl | ⟨2, _⟩ => rfl)).trans
      (gated_apply x e n g u h b r f)
  · exact (congrArg (val_main_v28 (F := Ideal) e d) (funext fun a => by match a with | ⟨0, _⟩ => rfl | ⟨1, _⟩ => rfl | ⟨2, _⟩ => rfl)).trans
      (down_weights e n d h b f k)

/-! ## The used blocks -/

/-- The count, read from its one place. -/
theorem count_apply (i : S_.Idx) : val_main_v31 (F := Ideal) n i = n (ix1 (0 : Fin 1)) := by
  unfold val_main_v31
  exact congrArg n (funext fun a => by fin_cases a; exact Subsingleton.elim (α := Fin 1) _ _)

include h in
/-- A block's flag is set when the block is below the count. -/
theorem flag_iff (b : Fin 576) (r : Fin 256) (k : Fin 1024) :
    val_main_call1_v1 (F := Ideal) n (ix3 b r k) = 1#1 ↔ b.val < (n (ix1 (0 : Fin 1))).toNat := by
  have hn := h.le (ix1 (0 : Fin 1))
  rw [val_main_call1_v1_apply, val_main_v34_apply, val_main_v33_apply, val_main_v30_apply, val_main_v32_apply, count_apply]
  show BitVec.ofBool ((BitVec.ofNat 32 b.val).slt (n (ix1 (0 : Fin 1)))) = 1#1 ↔ _
  generalize n (ix1 (0 : Fin 1)) = w at hn
  rw [slt_small b w hn]
  by_cases hb : b.val < w.toNat <;> simp [hb]

include h in
theorem entry_apply (b : Fin 576) (r : Fin 256) (k : Fin 1024) : val_main_v35 (F := Ideal) x e n g u d (ix3 b r k) = entry x e n g u d b r k := by
  rw [val_main_v35_apply]
  unfold entry
  by_cases hb : b.val < (n (ix1 (0 : Fin 1))).toNat
  · rw [if_pos hb, (flag_iff e n h b r k).2 hb]
    exact feed_apply x e n g u d h b r k
  · rw [if_neg hb]
    refine (if_neg (fun h1 => hb ((flag_iff e n h b r k).1 h1))).trans ?_
    rw [val_main_call1_v2_apply]
    exact Ideal.ofBits_zero_f32

include h in
/-- The reference's result. -/
theorem result_eq : val_main_v36 (F := Ideal) x e n g u d = result x e n g u d := by
  funext j
  rw [val_main_v36_apply]
  refine Eq.trans (congrArg (val_main_v35 (F := Ideal) x e n g u d) (funext fun a => Fin.ext ?_)) (entry_apply x e n g u d h _ _ _)
  have h0 : (j 0).val < 147456 := (j 0).isLt
  have h1 : (j 1).val < 1024 := (j 1).isLt
  match a with
  | ⟨0, _⟩ =>
    show ((j 0).val * 1024 + (j 1).val) / 262144 = (j 0).val / 256
    omega
  | ⟨1, _⟩ =>
    show ((j 0).val * 1024 + (j 1).val) / 1024 % 256 = (j 0).val % 256
    omega
  | ⟨2, _⟩ =>
    show ((j 0).val * 1024 + (j 1).val) % 1024 = (j 1).val
    omega

end Cert.ExpertsReference

end
-- ==== Proof.MixingRow.lean ====
/- The layer's output mixing at one row, and what follows from it: every function here is of one row's entries.

   The state-space mixer's row passes the tanh form of the Gaussian error unit and a gate of its own; with the attention's row
   beside it, it is multiplied with the mixing weights. The sum with the layer's input is normalised by the root of its mean
   square, scaled and shifted. -/
module

public import proofs.«01_k».proof.Proof.ExpertsBlock

@[expose] public section

set_option maxRecDepth 16384

noncomputable section

namespace Cert.MixingRow

open Idealize.ShloMosaic Cert.ExpertsBlock
open scoped BigOperators

/-- The number one. -/
def unit : EReal := Ideal.ofBits .f32 0x3F800000#32

theorem unit_eq : unit = 1 := by
  unfold unit
  pointwise

/-- The tanh form of the Gaussian error unit. -/
def gelu (y : EReal) : EReal :=
  Ideal.ofBits .f32 0x3F000000#32 * y * (unit + Ideal.tanh
    (Ideal.ofBits .f32 0x3F4C422A#32 * (y + Ideal.ofBits .f32 0x3D372713#32 * (y * y * y))))

/-- Entry `c` of the row that the state-space mixer hands on. -/
def glu (y : Fin 512 → EReal) (w : Fin 512 → Fin 512 → EReal) (b : Fin 512 → EReal) (c : Fin 512) : EReal :=
  gelu (y c) * Ideal.logistic ((∑ k, gelu (y k) * w k c) + b c)

/-- An entry of the mixed row, under the column `u` of the weights' upper half and `l` of their lower half. -/
def mixed (y : Fin 512 → EReal) (w : Fin 512 → Fin 512 → EReal) (b u na l : Fin 512 → EReal) : EReal :=
  (∑ c, glu y w b c * u c) + ∑ c, na c * l c

/-- Entry `d` of a row `h` normalised, scaled and shifted. -/
def normed (h scale shift : Fin 1024 → EReal) (d : Fin 1024) : EReal :=
  h d * Ideal.rsqrt (Ideal.div (∑ e, h e * h e) (Ideal.ofBits .f32 0x44800000#32) + Ideal.ofBits .f32 0x358637BD#32)
    * (unit + scale d) + shift d

/-- What the rows are made from: `n` rows of the state-space mixer, of the attention and of the layer's input, the weights, and the
    gate, shift and scale of the layer. -/
structure Args (n : ℕ) where
  y : Fin n → Fin 512 → EReal
  na : Fin n → Fin 512 → EReal
  x : Fin n → Fin 1024 → EReal
  wGlu : Fin 512 → Fin 512 → EReal
  bGlu : Fin 512 → EReal
  wOut : Fin 1024 → Fin 1024 → EReal
  gate : Fin 1024 → EReal
  shift : Fin 1024 → EReal
  scale : Fin 1024 → EReal
  router : Fin 1024 → Fin 64 → EReal
  sGate : Fin 1024 → Fin 256 → EReal
  sUp : Fin 1024 → Fin 256 → EReal
  sDown : Fin 256 → Fin 1024 → EReal

namespace Args
variable {n : ℕ} (a : Args n)

/-- The layer's input with the gated mixing added. -/
def hid (r : Fin n) (d : Fin 1024) : EReal :=
  a.x r d + a.gate d * mixed (a.y r) a.wGlu a.bGlu (fun c => a.wOut ⟨c.val, by omega⟩ d) (a.na r) fun c => a.wOut ⟨512 + c.val, by omega⟩ d

/-- Its row normalised. -/
def nrm (r : Fin n) : Fin 1024 → EReal := normed (a.hid r) a.scale a.shift

/-- A normalised row's product with an expert's router weights. -/
def logit (e : Fin 64) (r : Fin n) : EReal := ∑ d, a.router d e * a.nrm r d

/-- A normalised row fed through the shared expert. -/
def shared (r : Fin n) (d : Fin 1024) : EReal := feed (a.nrm r) (fun f q => a.sGate q f) (fun f q => a.sUp q f) fun f => a.sDown f d

/-- A row among the 256 of a block. -/
def rowOf (t : Fin 64) (r : Fin 256) : Fin 16384 := ⟨t.val * 256 + r.val, by omega⟩

/-- The 256 rows of a block, under the same weights. -/
def block (a : Args 16384) (t : Fin 64) : Args 256 where
  y r := a.y (rowOf t r)
  na r := a.na (rowOf t r)
  x r := a.x (rowOf t r)
  wGlu := a.wGlu
  bGlu := a.bGlu
  wOut := a.wOut
  gate := a.gate
  shift := a.shift
  scale := a.scale
  router := a.router
  sGate := a.sGate
  sUp := a.sUp
  sDown := a.sDown

/-- A block's rows come to what they come to among all. -/
theorem block_hid (a : Args 16384) (t : Fin 64) (r : Fin 256) (d : Fin 1024) : (a.block t).hid r d = a.hid (rowOf t r) d := rfl

theorem block_nrm (a : Args 16384) (t : Fin 64) (r : Fin 256) (d : Fin 1024) : (a.block t).nrm r d = a.nrm (rowOf t r) d := rfl

theorem block_logit (a : Args 16384) (t : Fin 64) (e : Fin 64) (r : Fin 256) : (a.block t).logit e r = a.logit e (rowOf t r) := rfl

theorem block_shared (a : Args 16384) (t : Fin 64) (r : Fin 256) (d : Fin 1024) : (a.block t).shared r d = a.shared (rowOf t r) d := by
  unfold shared
  rw [show (a.block t).nrm r = a.nrm (rowOf t r) from rfl]
  rfl

end Args

end Cert.MixingRow

end
-- ==== Proof.MixingBlock.lean ====
/- What a point of the mixing kernel stores, entry by entry, from the blocks it reads. -/
module

public import proofs.«01_k».proof.Proof.MixingRow
public import proofs.«01_k».proof.Proof.Gen.MixingIdeal.Value
public import Idealize.ShloMosaic.Lib.ValueLayoutCasts
public import Idealize.ShloMosaic.Lib.Pipeline.ValueKit

@[expose] public section

set_option maxRecDepth 16384

noncomputable section

namespace Cert.MixingBlock

open Idealize.ShloMosaic Idealize.ShloMosaic.TcCoe Cert.MixingIdeal Cert.MixingIdeal.Gen Cert.MixingRow Cert.ExpertsBlock
open scoped BigOperators

/-- A product into a zero accumulator, at weights that are cast to their own shape. -/
theorem product {M K N : ℕ} {φ₁ φ₂ : FTy} (x : FVec Ideal ⟨2, ![M, K]⟩ φ₁) (w : FVec Ideal ⟨2, ![K, N]⟩ φ₂)
    (h : (⟨2, ![K, N]⟩ : Shape).ShapeCasts ⟨2, ![K, N]⟩) (r : Fin M) (c : Fin N) :
    FloatOps.matmul (F := Ideal) (DotDims.plain M K N) none x (shapeCast ⟨2, ![K, N]⟩ w h) (constant ⟨2, ![M, N]⟩ .f32 0x00000000#32) (ix2 r c)
      = ∑ k : Fin K, x (ix2 r k) * w (ix2 k c) := by
  rw [shapeCast_self]
  refine (Ideal.matmul_plain_apply none x w _ r c).trans ?_
  exact (congrArg₂ (· + ·) Ideal.ofBits_zero_f32 rfl).trans (zero_add _)

section Mixed
variable (y : Vec Ideal S256x512 .f32) (wg : Vec Ideal S512x512 .bf16) (bg : Vec Ideal S1x512 .f32) (u l : Vec Ideal S512x1024 .bf16)
variable (na : Vec Ideal S256x512 .bf16)

/-- The mixed rows. -/
theorem mixed_apply (r : Fin 256) (d : Fin 1024) : k0_pay2 y wg bg u na l (ix2 r d)
    = mixed (fun c => y (ix2 r c)) (fun k c => wg (ix2 k c)) (fun c => bg (ix2 0 c)) (fun c => u (ix2 c d)) (fun c => na (ix2 r c)) (fun c => l (ix2 c d)) := by
  unfold k0_pay2
  refine congrArg₂ (· + ·) ((product (M := 256) (K := 512) (N := 1024) _ u _ r d).trans (Finset.sum_congr rfl fun c _ => congrArg (· * u (ix2 c d)) ?_))
    (product (M := 256) (K := 512) (N := 1024) na l _ r d)
  refine congrArg₂ (fun a b : EReal => a * Ideal.logistic b) rfl (congrArg₂ (· + ·) (product (M := 256) (K := 512) (N := 512) _ wg _ r c) ?_)
  rw [shapeCast_self]
  exact ValueIdx.broadcastTo_1b_ab_apply _ _ r c

end Mixed

section Rest
variable (p : FVec Ideal S256x1024 .f32) (x : Vec Ideal S256x1024 .f32) (gate scale shift : Vec Ideal S1x1024 .f32)

/-- The sum with the layer's input, whose rows are normalised next. -/
def hid (r : Fin 256) (d : Fin 1024) : EReal := x (ix2 r d) + gate (ix2 0 d) * p (ix2 r d)

theorem hid_apply (r : Fin 256) (d : Fin 1024) : k0_pay4 p x (k0_pay3 gate) (ix2 r d) = hid p x gate r d := by
  unfold k0_pay4 k0_pay3
  exact congrArg (fun g : EReal => x (ix2 r d) + g * p (ix2 r d)) (ValueIdx.broadcastTo_1b_ab_apply _ _ r d)

theorem normed_apply (r : Fin 256) (d : Fin 1024) : k0_pay5 p x (k0_pay3 gate) scale shift (ix2 r d)
    = normed (hid p x gate r) (fun d => scale (ix2 0 d)) (fun d => shift (ix2 0 d)) d := by
  unfold k0_pay5
  pointwise
  simp only [hid_apply, normed, unit_eq]

/-- The rows' products with the router's weights, which stand transposed. -/
theorem logit_apply (wr : Vec Ideal S64x1024 .f32) (e : Fin 64) (r : Fin 256) : k0_pay6 p x (k0_pay3 gate) scale shift wr (ix2 e r)
    = ∑ d, wr (ix2 e d) * normed (hid p x gate r) (fun d => scale (ix2 0 d)) (fun d => shift (ix2 0 d)) d := by
  unfold k0_pay6
  rw [shapeCast_self]
  refine (Ideal.matmul_transposedRhs_apply (M := 64) (K := 1024) (N := 256) (some .fp32) wr _ _ e r).trans ?_
  refine (congrArg₂ (· + ·) Ideal.ofBits_zero_f32 rfl).trans ((zero_add _).trans ?_)
  exact Finset.sum_congr rfl fun d _ => congrArg (wr (ix2 e d) * ·) (normed_apply p x gate scale shift r d)

/-- The shared expert's rows. -/
theorem shared_apply (g u : Vec Ideal S1024x256 .bf16) (w : Vec Ideal S256x1024 .bf16) (r : Fin 256) (d : Fin 1024) :
    k0_pay1 (k0_pay7 p x (k0_pay3 gate) scale shift) (k0_pay8 p x (k0_pay3 gate) scale shift g) (k0_pay9 u)
        (constant S256x256 .f32 0x00000000#32) w (ix2 r d)
      = feed (normed (hid p x gate r) (fun d => scale (ix2 0 d)) (fun d => shift (ix2 0 d))) (fun f q => g (ix2 q f)) (fun f q => u (ix2 q f))
          fun f => w (ix2 f d) := by
  unfold k0_pay1 k0_pay8 k0_pay9
  refine (product (M := 256) (K := 256) (N := 1024) _ w _ r d).trans (Finset.sum_congr rfl fun f _ => congrArg (· * w (ix2 f d)) ?_)
  have e : ∀ v : Vec Ideal S1024x256 .bf16, (∑ q : Fin 1024, k0_pay7 p x (k0_pay3 gate) scale shift (ix2 r q) * v (ix2 q f))
      = ∑ q, normed (hid p x gate r) (fun d => scale (ix2 0 d)) (fun d => shift (ix2 0 d)) q * v (ix2 q f) :=
    fun v => Finset.sum_congr rfl fun q _ => congrArg (· * v (ix2 q f)) (normed_apply p x gate scale shift r q)
  exact congrArg₂ (fun a b : EReal => a * Ideal.logistic a * b) ((product (M := 256) (K := 1024) (N := 256) _ g _ r f).trans (e g))
    ((product (M := 256) (K := 1024) (N := 256) _ u _ r f).trans (e u))

end Rest

/-! ## The four stores -/

section Stores
variable (x0 : Vec Ideal S256x512 .f32) (x1 : Vec Ideal S256x512 .bf16) (x2 : Vec Ideal S256x1024 .f32) (x3 : Vec Ideal S512x512 .bf16)
variable (x4 : Vec Ideal S1x512 .f32) (x5 : Vec Ideal S1024x1024 .bf16) (x6 x7 x8 : Vec Ideal S1x1024 .f32) (x9 : Vec Ideal S64x1024 .f32)
variable (x10 x11 : Vec Ideal S1024x256 .bf16) (x12 : Vec Ideal S256x1024 .bf16)

/-- The rows a point works on, from its blocks. -/
def blocks : Args 256 where
  y r c := x0 (ix2 r c)
  na r c := x1 (ix2 r c)
  x r d := x2 (ix2 r d)
  wGlu k c := x3 (ix2 k c)
  bGlu c := x4 (ix2 0 c)
  wOut k d := x5 (ix2 k d)
  gate d := x6 (ix2 0 d)
  shift d := x7 (ix2 0 d)
  scale d := x8 (ix2 0 d)
  router d e := x9 (ix2 e d)
  sGate q f := x10 (ix2 q f)
  sUp q f := x11 (ix2 q f)
  sDown f d := x12 (ix2 f d)

/-- The mixed rows, from the two halves of the mixing weights. -/
abbrev mix : FVec Ideal S256x1024 .f32 := k0_pay2 x0 x3 x4 (View.ld x5 r0_3) x1 (View.ld x5 r0_4)

theorem hid_eq (r : Fin 256) : hid (mix x0 x1 x3 x4 x5) x2 x6 r = (blocks x0 x1 x2 x3 x4 x5 x6 x7 x8 x9 x10 x11 x12).hid r := by
  funext d
  refine congrArg (fun p : EReal => x2 (ix2 r d) + x6 (ix2 0 d) * p) ((mixed_apply x0 x3 x4 _ _ x1 r d).trans ?_)
  refine congrArg₂ (fun u l : Fin 512 → EReal => mixed (fun c => x0 (ix2 r c)) (fun k c => x3 (ix2 k c)) (fun c => x4 (ix2 0 c)) u (fun c => x1 (ix2 r c)) l) ?_ ?_
  · funext c
    refine congrArg x5 (funext fun b => Fin.ext ?_)
    match b with
    | ⟨0, _⟩ => show 0 + 1 * c.val = c.val; omega
    | ⟨1, _⟩ => show 0 + 1 * d.val = d.val; omega
  · funext c
    refine congrArg x5 (funext fun b => Fin.ext ?_)
    match b with
    | ⟨0, _⟩ => show 512 + 1 * c.val = 512 + c.val; omega
    | ⟨1, _⟩ => show 0 + 1 * d.val = d.val; omega

theorem out13_apply (r : Fin 256) (d : Fin 1024) : out0_13 x0 x1 x2 x3 x4 x5 x6 x7 x8 x9 x10 x11 x12 (ix2 r d)
    = (blocks x0 x1 x2 x3 x4 x5 x6 x7 x8 x9 x10 x11 x12).hid r d := by
  rw [← hid_eq]
  unfold_out out0_13
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x6 (by decide)]
  exact hid_apply _ _ _ r d

theorem out14_apply (r : Fin 256) (d : Fin 1024) : out0_14 x0 x1 x2 x3 x4 x5 x6 x7 x8 x9 x10 x11 x12 (ix2 r d)
    = (blocks x0 x1 x2 x3 x4 x5 x6 x7 x8 x9 x10 x11 x12).nrm r d := by
  unfold Args.nrm
  rw [← hid_eq]
  unfold_out out0_14
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x6 (by decide), View.ld_unit_lit _ x7 (by decide),
    View.ld_unit_lit _ x8 (by decide)]
  exact normed_apply _ _ _ _ _ r d

theorem out15_apply (e : Fin 64) (r : Fin 256) : out0_15 x0 x1 x2 x3 x4 x5 x6 x7 x8 x9 x10 x11 x12 (ix2 e r)
    = (blocks x0 x1 x2 x3 x4 x5 x6 x7 x8 x9 x10 x11 x12).logit e r := by
  unfold Args.logit Args.nrm
  rw [← hid_eq]
  unfold_out out0_15
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x6 (by decide), View.ld_unit_lit _ x7 (by decide),
    View.ld_unit_lit _ x8 (by decide), View.ld_unit_lit _ x9 (by decide)]
  exact logit_apply _ _ _ _ _ x9 e r

theorem out16_apply (r : Fin 256) (d : Fin 1024) : out0_16 x0 x1 x2 x3 x4 x5 x6 x7 x8 x9 x10 x11 x12 (ix2 r d)
    = (blocks x0 x1 x2 x3 x4 x5 x6 x7 x8 x9 x10 x11 x12).shared r d := by
  unfold Args.shared Args.nrm
  rw [← hid_eq]
  unfold_out out0_16
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x6 (by decide), View.ld_unit_lit _ x7 (by decide),
    View.ld_unit_lit _ x8 (by decide), View.ld_unit_lit _ x10 (by decide), View.ld_unit_lit _ x11 (by decide), View.ld_unit_lit _ x12 (by decide)]
  exact shared_apply _ _ _ _ _ x10 x11 x12 r d

end Stores

end Cert.MixingBlock

end
-- ==== Proof.MixingArray.lean ====
/- The four arrays the mixing kernel leaves, of the arguments at the start. -/
module

public import proofs.«01_k».proof.Proof.MixingBlock
public import Idealize.ShloMosaic.Lib.StableHlo.ReadAt

@[expose] public section

set_option maxRecDepth 16384

noncomputable section

namespace Cert.MixingArray

open Idealize.ShloMosaic Idealize.ShloMosaic.TcCoe Cert.MixingIdeal Cert.MixingIdeal.Gen Cert.MixingRow Cert.MixingRow.Args Cert.MixingBlock

/-- The rows and weights in the arguments' arrays. -/
def argsOf (x0 : FVec Ideal S16384x512 .f32) (x1 : FVec Ideal S16384x512 .bf16) (x2 : FVec Ideal S16384x1024 .f32) (x3 : FVec Ideal S512x512 .f32)
    (x4 : FVec Ideal S512 .f32) (x5 : FVec Ideal S1024x1024 .f32) (x6 x7 x8 : FVec Ideal S1x1024 .f32) (x9 : FVec Ideal S1024x64 .f32)
    (x10 x11 : FVec Ideal S1024x256 .f32) (x12 : FVec Ideal S256x1024 .f32) : Args 16384 where
  y r c := x0 (ix2 r c)
  na r c := x1 (ix2 r c)
  x r d := x2 (ix2 r d)
  wGlu k c := x3 (ix2 k c)
  bGlu c := x4 (ix1 c)
  wOut k d := x5 (ix2 k d)
  gate d := x6 (ix2 0 d)
  shift d := x7 (ix2 0 d)
  scale d := x8 (ix2 0 d)
  router d e := x9 (ix2 d e)
  sGate q f := x10 (ix2 q f)
  sUp q f := x11 (ix2 q f)
  sDown f d := x12 (ix2 f d)

/-- An array of 16384 rows from their entries, and an array of 16384 columns. -/
def byRow (f : Fin 16384 → Fin 1024 → EReal) : S16384x1024.Idx → EReal := fun j => f (j 0) (j 1)

def byColumn (f : Fin 64 → Fin 16384 → EReal) : S64x16384.Idx → EReal := fun j => f (j 0) (j 1)

variable (m : (ℓ : Loc nD τ sig) → Buf (Elt Ideal) ℓ)

/-- The rows and weights at the start. -/
abbrev args (c : Dev nD) : Args 16384 :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-! ## What the host hands over -/

/-- The weights, whose casts keep every number. -/
theorem V_weights (c : Dev nD) : V m c main_v0 = m ((c : Thread nD τ).loc main_arg3) ∧ V m c main_v2 = m ((c : Thread nD τ).loc main_arg5)
    ∧ V m c main_v4 = m ((c : Thread nD τ).loc main_arg10) ∧ V m c main_v5 = m ((c : Thread nD τ).loc main_arg11)
    ∧ V m c main_v6 = m ((c : Thread nD τ).loc main_arg12) := by
  refine ⟨?_, ?_, ?_, ?_, ?_⟩ <;> after_reads_simp <;> rfl

/-- The bias as a row of its own. -/
theorem V_bias (c : Dev nD) (k : Fin 512) : V m c main_v1 (ix2 0 k) = m ((c : Thread nD τ).loc main_arg4) (ix1 k) := by
  have e : V m c main_v1 = broadcastInDim S1x512 ![1] bcast_S512_S1x512_1 (m ((c : Thread nD τ).loc main_arg4)) := by
    after_reads_simp
  rw [e]
  pointwise

/-- The router's weights transposed. -/
theorem V_router (c : Dev nD) (e : Fin 64) (d : Fin 1024) : V m c main_v3 (ix2 e d) = m ((c : Thread nD τ).loc main_arg9) (ix2 d e) := by
  have h : V m c main_v3 = transpose S64x1024 [1, 0] (m ((c : Thread nD τ).loc main_arg9)) transposes_S1024x64_S64x1024_1_0 := by
    after_reads_simp
  rw [h]
  pointwise

/-! ## What a point reads -/

/-- A read whose index is a block's is its 256 rows. -/
theorem rows_of {K : ℕ} {α : Type} (x : (⟨2, ![16384, K]⟩ : Shape).Idx → α) (t : Fin 64)
    (f : (⟨2, ![256, K]⟩ : Shape).Idx → (⟨2, ![16384, K]⟩ : Shape).Idx)
    (h : ∀ j a, (f j a).val = ![t.val, 0] a * ![256, K] a + (j a).val) : (fun j => x (f j)) = fun j => x (ix2 (rowOf t (j 0)) (j 1)) := by
  funext j
  refine congrArg x (funext fun a => Fin.ext ((h j a).trans ?_))
  match a with
  | ⟨0, _⟩ => rfl
  | ⟨1, _⟩ => exact (congrArg (· + _) (Nat.zero_mul _)).trans (Nat.zero_add _)

/-- A read whose index is the one block's is the array. -/
theorem all_of {A B : ℕ} {α : Type} (x : (⟨2, ![A, B]⟩ : Shape).Idx → α) (f : (⟨2, ![A, B]⟩ : Shape).Idx → (⟨2, ![A, B]⟩ : Shape).Idx)
    (h : ∀ j a, (f j a).val = ![0, 0] a * ![A, B] a + (j a).val) : (fun j => x (f j)) = x := by
  funext j
  refine congrArg x (funext fun a => Fin.ext ((h j a).trans ?_))
  match a with
  | ⟨0, _⟩ => exact (congrArg (· + _) (Nat.zero_mul _)).trans (Nat.zero_add _)
  | ⟨1, _⟩ => exact (congrArg (· + _) (Nat.zero_mul _)).trans (Nat.zero_add _)

theorem idx_rows : ∀ t : Fin grid0.N, win0_0.index t = ![t.val, 0] ∧ win0_1.index t = ![t.val, 0] ∧ win0_2.index t = ![t.val, 0] := by
  decide +kernel

theorem idx_all : ∀ t : Fin grid0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] := by decide +kernel

theorem idx_out : ∀ t : Fin grid0.N, win0_13.index t = ![t.val, 0] ∧ win0_14.index t = ![t.val, 0] ∧ win0_15.index t = ![0, t.val]
    ∧ win0_16.index t = ![t.val, 0] := by decide +kernel

theorem iblk_rows (c : Dev nD) (t : Fin cfg0.N) :
    iblk m c 0 t = (fun j => V m c main_arg0 (ix2 (rowOf t (j 0)) (j 1))) ∧ iblk m c 1 t = (fun j => V m c main_arg1 (ix2 (rowOf t (j 0)) (j 1)))
    ∧ iblk m c 2 t = fun j => V m c main_arg2 (ix2 (rowOf t (j 0)) (j 1)) := by
  obtain ⟨e0, e1, e2⟩ := idx_rows t
  refine ⟨?_, ?_, ?_⟩
  · refine rows_of (V m c main_arg0) t ((cfg0.win 0).blk t).view.emb fun j a => ?_
    blk_simp [iblk, e0]
  · refine rows_of (V m c main_arg1) t ((cfg0.win 1).blk t).view.emb fun j a => ?_
    blk_simp [iblk, e1]
  · refine rows_of (V m c main_arg2) t ((cfg0.win 2).blk t).view.emb fun j a => ?_
    blk_simp [iblk, e2]

set_option maxHeartbeats 2000000 in
theorem iblk_all (c : Dev nD) (t : Fin cfg0.N) :
    (iblk m c 3 t = V m c main_v0 ∧ iblk m c 4 t = V m c main_v1 ∧ iblk m c 5 t = V m c main_v2 ∧ iblk m c 6 t = V m c main_arg6
    ∧ iblk m c 7 t = V m c main_arg7) ∧ iblk m c 8 t = V m c main_arg8 ∧ iblk m c 9 t = V m c main_v3 ∧ iblk m c 10 t = V m c main_v4
    ∧ iblk m c 11 t = V m c main_v5 ∧ iblk m c 12 t = V m c main_v6 := by
  obtain ⟨e3, e4, e5, e6, e7, e8, e9, e10, e11, e12⟩ := idx_all t
  refine ⟨⟨?_, ?_, ?_, ?_, ?_⟩, ?_, ?_, ?_, ?_, ?_⟩
  · exact all_of (V m c main_v0) ((cfg0.win 3).blk t).view.emb fun j a => by blk_simp [iblk, e3]
  · exact all_of (V m c main_v1) ((cfg0.win 4).blk t).view.emb fun j a => by blk_simp [iblk, e4]
  · exact all_of (V m c main_v2) ((cfg0.win 5).blk t).view.emb fun j a => by blk_simp [iblk, e5]
  · exact all_of (V m c main_arg6) ((cfg0.win 6).blk t).view.emb fun j a => by blk_simp [iblk, e6]
  · exact all_of (V m c main_arg7) ((cfg0.win 7).blk t).view.emb fun j a => by blk_simp [iblk, e7]
  · exact all_of (V m c main_arg8) ((cfg0.win 8).blk t).view.emb fun j a => by blk_simp [iblk, e8]
  · exact all_of (V m c main_v3) ((cfg0.win 9).blk t).view.emb fun j a => by blk_simp [iblk, e9]
  · exact all_of (V m c main_v4) ((cfg0.win 10).blk t).view.emb fun j a => by blk_simp [iblk, e10]
  · exact all_of (V m c main_v5) ((cfg0.win 11).blk t).view.emb fun j a => by blk_simp [iblk, e11]
  · exact all_of (V m c main_v6) ((cfg0.win 12).blk t).view.emb fun j a => by blk_simp [iblk, e12]

/-- So its rows and weights are its block of those at the start. -/
theorem blocks_eq (c : Dev nD) (t : Fin cfg0.N) :
    blocks (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) = (args m c).block t := by
  obtain ⟨b0, b1, b2⟩ := iblk_rows m c t
  obtain ⟨⟨b3, b4, b5, b6, b7⟩, b8, b9, b10, b11, b12⟩ := iblk_all m c t
  obtain ⟨w0, w2, w4, w5, w6⟩ := V_weights m c
  rw [b0, b1, b2, b3, b4, b5, b6, b7, b8, b9, b10, b11, b12, w0, w2, w4, w5, w6, V_main_arg0, V_main_arg1, V_main_arg2, V_main_arg6, V_main_arg7,
    V_main_arg8]
  refine Eq.trans ?_ (congrArg₂ (fun b w => ({ (args m c).block t with bGlu := b, router := w } : Args 256)) (funext fun k => V_bias m c k)
    (funext fun d => funext fun e => V_router m c e d))
  rfl

/-! ## What a point writes -/

variable (c : Dev nD) (t : Fin cfg0.N)

theorem hid_at (r : Fin 256) (d : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r d) = (args m c).hid (rowOf t r) d :=
  (out13_apply _ _ _ _ _ _ _ _ _ _ _ _ _ _ _).trans ((congrArg (fun a : Args 256 => a.hid r d) (blocks_eq m c t)).trans (block_hid _ t r d))

theorem nrm_at (r : Fin 256) (d : Fin 1024) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r d) = (args m c).nrm (rowOf t r) d :=
  (out14_apply _ _ _ _ _ _ _ _ _ _ _ _ _ _ _).trans ((congrArg (fun a : Args 256 => a.nrm r d) (blocks_eq m c t)).trans (block_nrm _ t r d))

theorem logit_at (e : Fin 64) (r : Fin 256) :
    out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 e r) = (args m c).logit e (rowOf t r) :=
  (out15_apply _ _ _ _ _ _ _ _ _ _ _ _ _ _ _).trans ((congrArg (fun a : Args 256 => a.logit e r) (blocks_eq m c t)).trans (block_logit _ t e r))

theorem shared_at (r : Fin 256) (d : Fin 1024) :
    out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r d) = (args m c).shared (rowOf t r) d :=
  (out16_apply _ _ _ _ _ _ _ _ _ _ _ _ _ _ _).trans ((congrArg (fun a : Args 256 => a.shared r d) (blocks_eq m c t)).trans (block_shared _ t r d))

theorem flushed_hid : (dats m 0 c).flushed 13 t = ((cfg0.win 13).blk t).view.read (Elt Ideal) (byRow (args m c).hid) := by
  rw [Value.flushed13]
  refine Eq.trans (funext fun j => ?_) (rows_of (byRow (args m c).hid) t ((cfg0.win 13).blk t).view.emb fun j a => ?_).symm
  · idx_vars j
    exact hid_at m c t j0 j1
  · blk_simp [(idx_out t).1]

theorem flushed_nrm : (dats m 0 c).flushed 14 t = ((cfg0.win 14).blk t).view.read (Elt Ideal) (byRow (args m c).nrm) := by
  rw [Value.flushed14]
  refine Eq.trans (funext fun j => ?_) (rows_of (byRow (args m c).nrm) t ((cfg0.win 14).blk t).view.emb fun j a => ?_).symm
  · idx_vars j
    exact nrm_at m c t j0 j1
  · blk_simp [(idx_out t).2.1]

theorem flushed_shared : (dats m 0 c).flushed 16 t = ((cfg0.win 16).blk t).view.read (Elt Ideal) (byRow (args m c).shared) := by
  rw [Value.flushed16]
  refine Eq.trans (funext fun j => ?_) (rows_of (byRow (args m c).shared) t ((cfg0.win 16).blk t).view.emb fun j a => ?_).symm
  · idx_vars j
    exact shared_at m c t j0 j1
  · blk_simp [(idx_out t).2.2.2]

/-- A read whose index is a block's is its 256 columns. -/
theorem columns_of (x : S64x16384.Idx → EReal) (t : Fin 64) (f : S64x256.Idx → S64x16384.Idx)
    (h : ∀ j a, (f j a).val = ![0, t.val] a * ![64, 256] a + (j a).val) : (fun j => x (f j)) = fun j => x (ix2 (j 0) (rowOf t (j 1))) := by
  funext j
  refine congrArg x (funext fun a => Fin.ext ((h j a).trans ?_))
  match a with
  | ⟨0, _⟩ => exact (congrArg (· + _) (Nat.zero_mul _)).trans (Nat.zero_add _)
  | ⟨1, _⟩ => rfl

theorem flushed_logit : (dats m 0 c).flushed 15 t = ((cfg0.win 15).blk t).view.read (Elt Ideal) (byColumn (args m c).logit) := by
  rw [Value.flushed15]
  refine Eq.trans (funext fun j => ?_) (columns_of (byColumn (args m c).logit) t ((cfg0.win 15).blk t).view.emb fun j a => ?_).symm
  · idx_vars j
    exact logit_at m c t j0 j1
  · blk_simp [(idx_out t).2.2.1]

/-! ## The arrays after the last point -/

/-- The point whose block holds row `r`. -/
theorem point_of (r : ℕ) (h : r < 16384) : ∃ t : Fin grid0.N, t.val = r / 256 :=
  ⟨⟨r / 256, by have hN : grid0.N = 64 := N_0; omega⟩, rfl⟩

theorem arr_hid : (dats m 0 c).arrAt 13 cfg0.N = byRow (args m c).hid :=
  (dats m 0 c).arrAt_eq_of_cover 13 _ (fun t _ => flushed_hid m c t) fun i => by
    have h0 : (i 0).val < 16384 := (i 0).isLt
    have h1 : (i 1).val < 1024 := (i 1).isLt
    obtain ⟨t, ht⟩ := point_of _ h0
    refine ⟨t, flush0_13 _, ?_⟩
    mem_blk [fun t : Fin grid0.N => (idx_out t).1]
    omega

theorem arr_nrm : (dats m 0 c).arrAt 14 cfg0.N = byRow (args m c).nrm :=
  (dats m 0 c).arrAt_eq_of_cover 14 _ (fun t _ => flushed_nrm m c t) fun i => by
    have h0 : (i 0).val < 16384 := (i 0).isLt
    have h1 : (i 1).val < 1024 := (i 1).isLt
    obtain ⟨t, ht⟩ := point_of _ h0
    refine ⟨t, flush0_14 _, ?_⟩
    mem_blk [fun t : Fin grid0.N => (idx_out t).2.1]
    omega

theorem arr_logit : (dats m 0 c).arrAt 15 cfg0.N = byColumn (args m c).logit :=
  (dats m 0 c).arrAt_eq_of_cover 15 _ (fun t _ => flushed_logit m c t) fun i => by
    have h0 : (i 0).val < 64 := (i 0).isLt
    have h1 : (i 1).val < 16384 := (i 1).isLt
    obtain ⟨t, ht⟩ := point_of _ h1
    refine ⟨t, flush0_15 _, ?_⟩
    mem_blk [fun t : Fin grid0.N => (idx_out t).2.2.1]
    omega

theorem arr_shared : (dats m 0 c).arrAt 16 cfg0.N = byRow (args m c).shared :=
  (dats m 0 c).arrAt_eq_of_cover 16 _ (fun t _ => flushed_shared m c t) fun i => by
    have h0 : (i 0).val < 16384 := (i 0).isLt
    have h1 : (i 1).val < 1024 := (i 1).isLt
    obtain ⟨t, ht⟩ := point_of _ h0
    refine ⟨t, flush0_16 _, ?_⟩
    mem_blk [fun t : Fin grid0.N => (idx_out t).2.2.2]
    omega

end Cert.MixingArray

end
-- ==== Proof.MixingReference.lean ====
/- The mixing's reference, read at an entry: what the arguments' rows come to. -/
module

public import proofs.«01_k».proof.Proof.MixingArray
public import proofs.«01_k».proof.Proof.Gen.MixingReferenceIdeal.Read

@[expose] public section

set_option maxRecDepth 16384

noncomputable section

namespace Cert.MixingReference

open Idealize.ShloMosaic Idealize.ShloMosaic.TcCoe Cert.MixingReferenceIdeal Cert.MixingReferenceIdeal.Read
open Cert.MixingRow Cert.MixingRow.Args Cert.MixingArray Cert.ExpertsBlock
open scoped BigOperators

variable (x0 : FVec Ideal S16384x512 .f32) (x1 : FVec Ideal S16384x512 .bf16) (x2 : FVec Ideal S16384x1024 .f32) (x3 : FVec Ideal S512x512 .f32)
variable (x4 : FVec Ideal S512 .f32) (x5 : FVec Ideal S1024x1024 .f32) (x6 x7 x8 : FVec Ideal S1x1024 .f32) (x9 : FVec Ideal S1024x64 .f32)
variable (x10 x11 : FVec Ideal S1024x256 .f32) (x12 : FVec Ideal S256x1024 .f32)

/-- Two indices of rank two with the same coordinates. -/
theorem ix2_eq {a b : ℕ} {i : (⟨2, ![a, b]⟩ : Shape).Idx} {p : Fin a} {q : Fin b} (h0 : (i 0).val = p.val) (h1 : (i 1).val = q.val) : i = ix2 p q :=
  funext fun n => Fin.ext (by match n with | ⟨0, _⟩ => exact h0 | ⟨1, _⟩ => exact h1)

/-- The error unit, which the reference multiplies up in another order. -/
theorem gelu_apply (r : Fin 16384) (c : Fin 512) : val_main_v12 (F := Ideal) x0 (ix2 r c) = gelu (x0 (ix2 r c)) := by
  rw [val_main_v12_apply, val_main_v11_apply, val_main_v10_apply, val_main_cst_2_apply, val_main_v9_apply, val_main_v8_apply, val_main_cst_1_apply,
    val_main_v7_apply, val_main_v6_apply, val_main_v5_apply, val_main_cst_0_apply, val_main_v4_apply, val_main_v3_apply, val_main_v2_apply,
    val_main_cst_apply, val_main_v1_apply, val_main_v0_apply]
  unfold gelu
  exact (mul_assoc _ _ _).symm.trans (congrArg (· * _) (mul_comm _ _))

theorem glu_apply (r : Fin 16384) (c : Fin 512) : val_main_v23 (F := Ideal) x0 x3 x4 (ix2 r c)
    = glu (fun k => x0 (ix2 r k)) (fun k c => x3 (ix2 k c)) (fun c => x4 (ix1 c)) c := by
  have hs : val_main_v16 (F := Ideal) x0 x3 x4 (ix2 r c) = (∑ k, gelu (x0 (ix2 r k)) * x3 (ix2 k c)) + x4 (ix1 c) := by
    rw [val_main_v16_apply, val_main_v13_apply, val_main_v15_apply, val_main_v14_apply]
    refine congrArg₂ (· + ·) (Finset.sum_congr rfl fun k _ => congrArg₂ (· * ·) ?_ ?_) ?_
    · exact (congrArg (val_main_v12 (F := Ideal) x0) (ix2_eq rfl rfl)).trans (gelu_apply x0 r k)
    · exact congrArg x3 (ix2_eq rfl rfl)
    · exact congrArg x4 (funext fun n => by match n with | ⟨0, _⟩ => rfl)
  rw [val_main_v23_apply, val_main_v22_apply, val_main_v21_apply, val_main_cst_4_apply, val_main_v20_apply, val_main_v19_apply, val_main_cst_3_apply,
    val_main_v18_apply, val_main_v17_apply, hs, gelu_apply]
  unfold glu Ideal.logistic
  pointwise

/-- The row that is multiplied with the mixing weights: the state-space mixer's entries, then the attention's. -/
theorem joined_left (r : Fin 16384) (c : Fin 512) : val_main_v25 (F := Ideal) x0 x1 x3 x4 (ix2 r ⟨c.val, by omega⟩) = val_main_v23 (F := Ideal) x0 x3 x4 (ix2 r c) := by
  unfold val_main_v25
  pointwise

theorem joined_right (r : Fin 16384) (c : Fin 512) : val_main_v25 (F := Ideal) x0 x1 x3 x4 (ix2 r ⟨512 + c.val, by omega⟩) = x1 (ix2 r c) := by
  unfold val_main_v25
  pointwise
  rfl

theorem mixed_apply (r : Fin 16384) (d : Fin 1024) : val_main_v26 (F := Ideal) x0 x1 x3 x4 x5 (ix2 r d)
    = mixed (fun k => x0 (ix2 r k)) (fun k c => x3 (ix2 k c)) (fun c => x4 (ix1 c)) (fun c => x5 (ix2 ⟨c.val, by omega⟩ d)) (fun c => x1 (ix2 r c))
      fun c => x5 (ix2 ⟨512 + c.val, by omega⟩ d) := by
  rw [val_main_v26_apply]
  refine (Fin.sum_univ_add (a := 512) (b := 512) _).trans (congrArg₂ (· + ·) (Finset.sum_congr rfl fun c _ => congrArg₂ (· * ·) ?_ ?_)
    (Finset.sum_congr rfl fun c _ => congrArg₂ (· * ·) ?_ ?_))
  · exact (congrArg (val_main_v25 (F := Ideal) x0 x1 x3 x4) (ix2_eq rfl rfl)).trans ((joined_left x0 x1 x3 x4 r c).trans (glu_apply x0 x3 x4 r c))
  · exact congrArg x5 (ix2_eq rfl rfl)
  · exact (congrArg (val_main_v25 (F := Ideal) x0 x1 x3 x4) (ix2_eq rfl rfl)).trans (joined_right x0 x1 x3 x4 r c)
  · exact congrArg x5 (ix2_eq rfl rfl)

theorem hid_apply (r : Fin 16384) (d : Fin 1024) : val_main_v29 (F := Ideal) x0 x1 x2 x3 x4 x5 x6 (ix2 r d) = (argsOf x0 x1 x2 x3 x4 x5 x6 x7 x8 x9 x10 x11 x12).hid r d := by
  rw [val_main_v29_apply, val_main_v28_apply, val_main_v27_apply, mixed_apply]
  exact congrArg (fun g : EReal => x2 (ix2 r d) + g * _) (congrArg x6 (ix2_eq rfl rfl))

theorem nrm_apply (r : Fin 16384) (d : Fin 1024) : val_main_v45 (F := Ideal) x0 x1 x2 x3 x4 x5 x6 x7 x8 (ix2 r d) = (argsOf x0 x1 x2 x3 x4 x5 x6 x7 x8 x9 x10 x11 x12).nrm r d := by
  have hsum : val_main_v31 (F := Ideal) x0 x1 x2 x3 x4 x5 x6 (ix1 r) = ∑ e, (argsOf x0 x1 x2 x3 x4 x5 x6 x7 x8 x9 x10 x11 x12).hid r e * (argsOf x0 x1 x2 x3 x4 x5 x6 x7 x8 x9 x10 x11 x12).hid r e := by
    rw [val_main_v31_apply, val_main_cst_5_apply]
    refine (congrArg₂ (· + ·) Ideal.ofBits_zero_f32 rfl).trans ((zero_add _).trans (Finset.sum_congr rfl fun e _ => ?_))
    rw [val_main_v30_apply]
    have h := (congrArg (val_main_v29 (F := Ideal) x0 x1 x2 x3 x4 x5 x6) (ix2_eq (i := idx_main_v31 (ix1 r) e) rfl rfl)).trans
      (hid_apply x0 x1 x2 x3 x4 x5 x6 x7 x8 x9 x10 x11 x12 r e)
    exact congrArg₂ (fun a b : EReal => a * b) h h
  rw [val_main_v45_apply, val_main_v43_apply, val_main_v39_apply, val_main_v38_apply, val_main_v37_apply, val_main_v36_apply, val_main_v34_apply,
    val_main_v32_apply, val_main_v33_apply, val_main_cst_6_apply, val_main_v35_apply, val_main_cst_7_apply, val_main_v42_apply, val_main_v41_apply,
    val_main_v40_apply, val_main_cst_8_apply, val_main_v44_apply, hid_apply x0 x1 x2 x3 x4 x5 x6 x7 x8 x9 x10 x11 x12]
  rw [show idx_main_v32 (idx_main_v38 (ix2 r d)) = ix1 r from funext fun n => by match n with | ⟨0, _⟩ => rfl, hsum,
    show idx_main_v42 (ix2 r d) = ix2 0 d from ix2_eq rfl rfl, show idx_main_v44 (ix2 r d) = ix2 0 d from ix2_eq rfl rfl]
  rfl

/-- A normalised row's product with the gate's or the up-projection's weights. -/
theorem wide_apply (w : FVec Ideal S1024x256 .f32) (r : Fin 16384) (f : Fin 256) :
    val_main_v46 (F := Ideal) x0 x1 x2 x3 x4 x5 x6 x7 x8 w (ix2 r f) = ∑ q, (argsOf x0 x1 x2 x3 x4 x5 x6 x7 x8 x9 x10 x11 x12).nrm r q * w (ix2 q f) := by
  rw [val_main_v46_apply]
  refine Finset.sum_congr rfl fun q _ => congrArg₂ (· * ·) ?_ (congrArg w (ix2_eq rfl rfl))
  exact (congrArg (val_main_v45 (F := Ideal) x0 x1 x2 x3 x4 x5 x6 x7 x8) (ix2_eq rfl rfl)).trans (nrm_apply x0 x1 x2 x3 x4 x5 x6 x7 x8 x9 x10 x11 x12 r q)

theorem gated_apply (r : Fin 16384) (f : Fin 256) : val_main_v49 (F := Ideal) x0 x1 x2 x3 x4 x5 x6 x7 x8 x10 x11 (ix2 r f)
    = gated ((argsOf x0 x1 x2 x3 x4 x5 x6 x7 x8 x9 x10 x11 x12).nrm r) (fun q => x10 (ix2 q f)) (fun q => x11 (ix2 q f)) := by
  have hu : val_main_v48 (F := Ideal) x0 x1 x2 x3 x4 x5 x6 x7 x8 x11 (ix2 r f) = ∑ q, (argsOf x0 x1 x2 x3 x4 x5 x6 x7 x8 x9 x10 x11 x12).nrm r q * x11 (ix2 q f) :=
    wide_apply x0 x1 x2 x3 x4 x5 x6 x7 x8 x9 x10 x11 x12 x11 r f
  rw [val_main_v49_apply, val_main_v47_apply, val_main_call0_v5_apply, val_main_call0_v4_apply, val_main_call0_cst_0_apply, val_main_call0_v3_apply,
    val_main_call0_v2_apply, val_main_call0_cst_apply, val_main_call0_v1_apply, val_main_call0_v0_apply, hu,
    wide_apply x0 x1 x2 x3 x4 x5 x6 x7 x8 x9 x10 x11 x12]
  unfold gated Ideal.logistic
  pointwise

theorem shared_apply (r : Fin 16384) (d : Fin 1024) : val_main_v53 (F := Ideal) x0 x1 x2 x3 x4 x5 x6 x7 x8 x10 x11 x12 (ix2 r d) = (argsOf x0 x1 x2 x3 x4 x5 x6 x7 x8 x9 x10 x11 x12).shared r d := by
  rw [val_main_v53_apply]
  unfold shared feed
  refine (val_main_v50_apply _ _ _ _ _ _ _ _ _ _ _ _ _).trans (Finset.sum_congr rfl fun f _ => congrArg₂ (· * ·) ?_ (congrArg x12 (ix2_eq rfl rfl)))
  exact (congrArg (val_main_v49 (F := Ideal) x0 x1 x2 x3 x4 x5 x6 x7 x8 x10 x11) (ix2_eq rfl rfl)).trans
    (gated_apply x0 x1 x2 x3 x4 x5 x6 x7 x8 x9 x10 x11 x12 r f)

theorem logit_apply (e : Fin 64) (r : Fin 16384) : val_main_v52 (F := Ideal) x0 x1 x2 x3 x4 x5 x6 x7 x8 x9 (ix2 e r) = (argsOf x0 x1 x2 x3 x4 x5 x6 x7 x8 x9 x10 x11 x12).logit e r := by
  rw [val_main_v52_apply, val_main_v51_apply]
  refine Finset.sum_congr rfl fun d _ => (mul_comm _ _).trans (congrArg₂ (· * ·) (congrArg x9 (ix2_eq rfl rfl)) ?_)
  exact (congrArg (val_main_v45 (F := Ideal) x0 x1 x2 x3 x4 x5 x6 x7 x8) (ix2_eq rfl rfl)).trans (nrm_apply x0 x1 x2 x3 x4 x5 x6 x7 x8 x9 x10 x11 x12 r d)

end Cert.MixingReference

end
-- ==== Proof.ProjectionRow.lean ====
/- The input projection at one row: every function here is of one row's entries.

   The row is normalised by the root of its mean square, scaled and shifted, and multiplied with the projection's weights. Of the
   2048 columns the first 512 go to the state-space mixer; the others are the queries, keys and values of eight heads of 64 columns.
   A head's queries and keys are normalised again, by the root of the head's mean square, and multiplied by a gain. -/
module

public import proofs.«01_k».proof.Proof.MixingRow

@[expose] public section

set_option maxRecDepth 16384

noncomputable section

namespace Cert.ProjectionRow

open Idealize.ShloMosaic Cert.MixingRow
open scoped BigOperators

/-- Column `k` of the head of column `c`. -/
def inHead (c : Fin 512) (k : Fin 64) : Fin 512 := ⟨c.val / 64 * 64 + k.val, by omega⟩

/-- The place of column `c` in its head. -/
def place (c : Fin 512) : Fin 64 := ⟨c.val % 64, by omega⟩

/-- Entry `c` of eight heads' row, each head normalised, under the gains. -/
def headed (z gain : Fin 512 → EReal) (c : Fin 512) : EReal :=
  z c * Ideal.rsqrt (Ideal.div (∑ k, z (inHead c k) * z (inHead c k)) (Ideal.ofBits .f32 0x42800000#32) + Ideal.ofBits .f32 0x358637BD#32)
    * gain c

/-- Whether two columns are of one head, as a number. -/
def same (k c : Fin 512) : EReal := if k.val / 64 = c.val / 64 then 1 else 0

/-- A sum over the columns of `c`'s head, as a sum over all columns. -/
theorem sum_same (f : Fin 512 → EReal) (c : Fin 512) : ∑ k, f k * same k c = ∑ k, f (inHead c k) := by
  have e : ∀ p : Fin 8 × Fin 64, f (finProdFinEquiv p) * same (finProdFinEquiv p) c = if p.1.val = c.val / 64 then f (inHead c p.2) else 0 := by
    rintro ⟨h, k⟩
    have hv : (finProdFinEquiv (h, k) : Fin 512).val = k.val + 64 * h.val := rfl
    have hd : (k.val + 64 * h.val) / 64 = h.val := by omega
    unfold same
    rw [hv, hd]
    split
    · next hh =>
      rw [mul_one]
      refine congrArg f (Fin.ext (hv.trans ?_))
      show k.val + 64 * h.val = c.val / 64 * 64 + k.val
      omega
    · exact mul_zero _
  rw [← (finProdFinEquiv (m := 8) (n := 64)).sum_comp (fun k => f k * same k c), Fintype.sum_prod_type]
  refine (Finset.sum_congr rfl fun h _ => Finset.sum_congr rfl fun k _ => e (h, k)).trans ?_
  refine (Finset.sum_eq_single (⟨c.val / 64, by omega⟩ : Fin 8) (fun h _ hh => ?_) fun hh => absurd (Finset.mem_univ _) hh).trans ?_
  · exact Finset.sum_eq_zero fun k _ => if_neg fun hc => hh (Fin.ext hc)
  · exact Finset.sum_congr rfl fun k _ => if_pos rfl

/-- The 64th part of a number, which the kernel multiplies by and the reference divides by. -/
theorem mean_eq (x : EReal) : x * Ideal.ofBits .f32 0x3C800000#32 = Ideal.div x (Ideal.ofBits .f32 0x42800000#32) := by
  have h64 : Ideal.ofBits .f32 0x42800000#32 = ((64 : ℝ) : EReal) := by
    simp [Ideal.ofBits, Ideal.ieee, -EReal.coe_mul]; norm_num
  have hin : Ideal.ofBits .f32 0x3C800000#32 = (((64 : ℝ)⁻¹ : ℝ) : EReal) := by
    simp [Ideal.ofBits, Ideal.ieee, -EReal.coe_mul]; norm_num
  rw [h64, hin]
  unfold Ideal.div
  rw [if_neg (by norm_num)]
  rfl

/-- What the rows are made from: `n` rows of the layer's input, the shift and scale of its norm, the weights and the gains. -/
structure Args (n : ℕ) where
  x : Fin n → Fin 1024 → EReal
  shift : Fin 1024 → EReal
  scale : Fin 1024 → EReal
  w : Fin 1024 → Fin 2048 → EReal
  qGain : Fin 512 → EReal
  kGain : Fin 512 → EReal

namespace Args
variable {n : ℕ} (a : Args n)

/-- The projected row. -/
def proj (r : Fin n) (c : Fin 2048) : EReal := ∑ k, normed (a.x r) a.scale a.shift k * a.w k c

/-- Its four parts: the state-space mixer's entries, the queries, the keys and the values. -/
def mixer (r : Fin n) (c : Fin 512) : EReal := a.proj r ⟨c.val, by omega⟩

def query (r : Fin n) (c : Fin 512) : EReal := headed (fun k => a.proj r ⟨512 + k.val, by omega⟩) a.qGain c

def key (r : Fin n) (c : Fin 512) : EReal := headed (fun k => a.proj r ⟨1024 + k.val, by omega⟩) a.kGain c

def value (r : Fin n) (c : Fin 512) : EReal := a.proj r ⟨1536 + c.val, by omega⟩

/-- A row among the 512 of a block. -/
def rowOf (t : Fin 32) (r : Fin 512) : Fin 16384 := ⟨t.val * 512 + r.val, by omega⟩

/-- The 512 rows of a block, under the same weights. -/
def block (a : Args 16384) (t : Fin 32) : Args 512 where
  x r := a.x (rowOf t r)
  shift := a.shift
  scale := a.scale
  w := a.w
  qGain := a.qGain
  kGain := a.kGain

end Args

end Cert.ProjectionRow

end
-- ==== Proof.ProjectionBlock.lean ====
/- What a point of the projection's kernel stores, entry by entry, from the blocks it reads. -/
module

public import proofs.«01_k».proof.Proof.ProjectionRow
public import proofs.«01_k».proof.Proof.MixingBlock
public import proofs.«01_k».proof.Proof.Gen.ProjectionIdeal.Value
public import Idealize.ShloMosaic.Lib.ValueLayoutCasts
public import Idealize.ShloMosaic.Lib.Pipeline.ValueKit

@[expose] public section

set_option maxRecDepth 16384

noncomputable section

namespace Cert.ProjectionBlock

open Idealize.ShloMosaic Idealize.ShloMosaic.TcCoe Cert.ProjectionIdeal Cert.ProjectionIdeal.Gen Cert.MixingRow Cert.ProjectionRow
open scoped BigOperators

section Parts
variable (x : Vec Ideal S512x1024 .f32) (scale shift : Vec Ideal S1x1024 .f32) (w : Vec Ideal S1024x2048 .bf16)

/-- The projected rows. -/
theorem proj_apply (r : Fin 512) (c : Fin 2048) : k0_pay4 x scale shift w (ix2 r c)
    = ∑ k, normed (fun d => x (ix2 r d)) (fun d => scale (ix2 0 d)) (fun d => shift (ix2 0 d)) k * w (ix2 k c) := by
  unfold k0_pay4
  refine (MixingBlock.product (M := 512) (K := 1024) (N := 2048) _ w _ r c).trans (Finset.sum_congr rfl fun k _ => congrArg (· * w (ix2 k c)) ?_)
  pointwise
  simp only [normed, unit_eq]

variable (seg : Vec Ideal S512x512 .bf16) (hseg : ∀ k c : Fin 512, seg (ix2 k c) = same k c)
include hseg

/-- The sums of the squares of a head's columns, by a product with the table of the columns of one head. -/
theorem squares (z : FVec Ideal S512x512 .f32) (r c : Fin 512) :
    FloatOps.matmul (F := Ideal) (φ₁ := .bf16) (φ₂ := .bf16) (DotDims.plain 512 512 512) none (fun i => z i * z i) seg (constant ⟨2, ![512, 512]⟩ .f32 0x00000000#32) (ix2 r c)
      = ∑ k, z (ix2 r (inHead c k)) * z (ix2 r (inHead c k)) := by
  refine (Ideal.matmul_plain_apply none _ seg _ r c).trans ?_
  refine (congrArg₂ (· + ·) Ideal.ofBits_zero_f32 rfl).trans ((zero_add _).trans ?_)
  refine Eq.trans (Finset.sum_congr rfl fun k _ => ?_) (sum_same (fun k => z (ix2 r k) * z (ix2 r k)) c)
  exact congrArg (z (ix2 r k) * z (ix2 r k) * ·) (hseg k c)

/-- A head's columns normalised. -/
theorem headed_eq (z : FVec Ideal S512x512 .f32) (r c : Fin 512) (g : EReal) (gain : Fin 512 → EReal) (hg : g = gain c) :
    z (ix2 r c) * Ideal.rsqrt (FloatOps.matmul (F := Ideal) (φ₁ := .bf16) (φ₂ := .bf16) (DotDims.plain 512 512 512) none (fun i => z i * z i) seg (constant ⟨2, ![512, 512]⟩ .f32 0x00000000#32) (ix2 r c)
      * Ideal.ofBits .f32 0x3C800000#32 + Ideal.ofBits .f32 0x358637BD#32) * g = headed (fun c => z (ix2 r c)) gain c := by
  rw [squares seg hseg, mean_eq, hg]
  rfl

theorem query_apply (gain : Vec Ideal S1x512 .f32) (r c : Fin 512) :
    k0_pay1 (k0_pay6 x scale shift w) (k0_pay7 gain) (k0_pay8 x scale shift w seg) (Scalar.ofBits .f32 0x358637BD#32) (ix2 r c)
      = headed (fun c => k0_pay6 x scale shift w (ix2 r c)) (fun c => gain (ix2 0 c)) c := by
  unfold k0_pay1 k0_pay7 k0_pay8
  simp only [shapeCast_self]
  refine headed_eq seg hseg (k0_pay6 x scale shift w) r c _ _ ?_
  exact ValueIdx.broadcastTo_1b_ab_apply _ _ r c

theorem key_apply (z : FVec Ideal S512x2048 .f32) (gain : Vec Ideal S1x512 .f32) (r c : Fin 512) :
    k0_pay2 z gain seg (ix2 r c) = headed (fun c => z (ix2 r ⟨1024 + c.val, by omega⟩)) (fun c => gain (ix2 0 c)) c := by
  unfold k0_pay2
  simp only [shapeCast_self]
  have e : ∀ c : Fin 512, extractStridedSlice S512x512 ![0, 1024] z slices_S512x2048_o0_1024_S512x512 (ix2 r c) = z (ix2 r ⟨1024 + c.val, by omega⟩) := fun c => by
    pointwise
  refine (headed_eq seg hseg (extractStridedSlice S512x512 ![0, 1024] z slices_S512x2048_o0_1024_S512x512) r c _ (fun c => gain (ix2 0 c)) ?_).trans
    (congrArg (fun z => headed z _ c) (funext e))
  exact ValueIdx.broadcastTo_1b_ab_apply _ _ r c

end Parts

/-! ## The four stores -/

section Stores
variable (x0 : Vec Ideal S512x1024 .f32) (x1 x2 : Vec Ideal S1x1024 .f32) (x3 : Vec Ideal S1024x2048 .bf16) (x4 : Vec Ideal S512x512 .bf16)
variable (x5 x6 : Vec Ideal S1x512 .f32)

/-- The rows a point works on, from its blocks. -/
def blocks : ProjectionRow.Args 512 where
  x r d := x0 (ix2 r d)
  shift d := x1 (ix2 0 d)
  scale d := x2 (ix2 0 d)
  w k c := x3 (ix2 k c)
  qGain c := x5 (ix2 0 c)
  kGain c := x6 (ix2 0 c)

theorem out7_apply (r c : Fin 512) : out0_7 x0 x1 x2 x3 x4 x5 x6 (ix2 r c) = (blocks x0 x1 x2 x3 x5 x6).mixer r c := by
  unfold_out out0_7
  rw [View.canon_cons_unit_lit _ _ _ (by decide), View.ld_unit_lit _ x0 (by decide), View.ld_unit_lit _ x1 (by decide), View.ld_unit_lit _ x2 (by decide),
    View.ld_unit_lit _ x3 (by decide)]
  refine Eq.trans ?_ (proj_apply x0 x2 x1 x3 r ⟨c.val, by omega⟩)
  unfold k0_pay5
  generalize k0_pay4 x0 x2 x1 x3 = z
  pointwise

theorem out10_apply (r c : Fin 512) : out0_10 x0 x1 x2 x3 x4 x5 x6 (ix2 r c) = (blocks x0 x1 x2 x3 x5 x6).value r c := by
  unfold_out out0_10
  rw [View.canon_cons_unit_lit _ _ _ (by decide), View.ld_unit_lit _ x0 (by decide), View.ld_unit_lit _ x1 (by decide), View.ld_unit_lit _ x2 (by decide),
    View.ld_unit_lit _ x3 (by decide)]
  refine Eq.trans ?_ (proj_apply x0 x2 x1 x3 r ⟨1536 + c.val, by omega⟩)
  unfold k0_pay3
  generalize k0_pay4 x0 x2 x1 x3 = z
  pointwise

variable (hseg : ∀ k c : Fin 512, x4 (ix2 k c) = same k c)
include hseg

theorem out8_apply (r c : Fin 512) : out0_8 x0 x1 x2 x3 x4 x5 x6 (ix2 r c) = (blocks x0 x1 x2 x3 x5 x6).query r c := by
  unfold_out out0_8
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide)]
  refine (query_apply x0 x2 x1 x3 x4 hseg x5 r c).trans (congrArg (fun z => headed z _ c) (funext fun c => ?_))
  refine Eq.trans ?_ (proj_apply x0 x2 x1 x3 r ⟨512 + c.val, by omega⟩)
  unfold k0_pay6
  generalize k0_pay4 x0 x2 x1 x3 = z
  pointwise

theorem out9_apply (r c : Fin 512) : out0_9 x0 x1 x2 x3 x4 x5 x6 (ix2 r c) = (blocks x0 x1 x2 x3 x5 x6).key r c := by
  unfold_out out0_9
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x6 (by decide)]
  exact (key_apply x4 hseg _ x6 r c).trans (congrArg (fun z => headed z _ c) (funext fun c => proj_apply x0 x2 x1 x3 r ⟨1024 + c.val, by omega⟩))

end Stores

end Cert.ProjectionBlock

end
-- ==== Proof.ProjectionTable.lean ====
/- The table of the columns of one head, which the host hands to the input projection. -/
module

public import proofs.«01_k».proof.Proof.ProjectionRow
public import proofs.«01_k».proof.Proof.Gen.ProjectionIdeal.Frame
public import Idealize.ShloMosaic.Lib.StableHlo.ReadAt
public import Idealize.ShloMosaic.Lib.Pipeline.ValueKit

@[expose] public section

set_option maxRecDepth 16384

noncomputable section

namespace Cert.ProjectionTable

open Idealize.ShloMosaic Idealize.ShloMosaic.TcCoe Cert.ProjectionIdeal Cert.ProjectionIdeal.Gen Cert.ProjectionRow

/-- The table of the columns of one head: the unit matrix of the heads, each entry spread over 64 rows and 64 columns. -/
def table : FVec Ideal S512x512 .f32 :=
  shapeCast S512x512 (mulf (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3F800000#32))))) shapeCasts_S8x64x8x64_S512x512

/-- An entry is one where the two columns are of one head, and else nought. -/
theorem table_apply (k j : Fin 512) : table (ix2 k j) = same k j := by
  unfold table
  pointwise
  have hk : k.val / 64 < 8 := by omega
  have hj : j.val / 64 < 8 := by omega
  unfold same
  generalize k.val / 64 = a at hk ⊢
  generalize j.val / 64 = b at hj ⊢
  have e : ∀ a b : Fin 8, (IntOp.cmpi CmpIPredicate.eq (IntOp.addi (BitVec.ofNat 32 a.val) 0#32) (BitVec.ofNat 32 b.val)).toNat = if a.val = b.val then 1 else 0 := by
    decide
  have h := e ⟨a, hk⟩ ⟨b, hj⟩
  refine (congrArg (fun n : ℕ => ((n : ℝ) : EReal)) h).trans ?_
  show (((if a = b then 1 else 0 : ℕ) : ℝ) : EReal) = _
  split
  · simp
  · simp

/-- The host hands this table over, its cast keeping every number. -/
theorem V_table (m : (ℓ : Loc nD τ sig) → Buf (Elt Ideal) ℓ) (c : Dev nD) : V m c main_v8 = table := by
  after_reads_simp
  rfl

end Cert.ProjectionTable

end
-- ==== Proof.ProjectionArray.lean ====
/- The four arrays the input projection leaves, of the arguments at the start. -/
module

public import proofs.«01_k».proof.Proof.ProjectionBlock
public import proofs.«01_k».proof.Proof.ProjectionTable
public import proofs.«01_k».proof.Proof.MixingArray
public import Idealize.ShloMosaic.Lib.StableHlo.ReadAt

@[expose] public section

set_option maxRecDepth 16384

noncomputable section

namespace Cert.ProjectionArray

open Idealize.ShloMosaic Idealize.ShloMosaic.TcCoe Cert.ProjectionIdeal Cert.ProjectionIdeal.Gen Cert.ProjectionRow Cert.ProjectionRow.Args Cert.ProjectionBlock

/-- The rows and weights in the arguments' arrays. A gain's 64 entries serve every head. -/
def argsOf (x0 : FVec Ideal S16384x1024 .f32) (x1 x2 : FVec Ideal S1x1024 .f32) (x3 : FVec Ideal S1024x2048 .f32) (x4 x5 : FVec Ideal S64 .f32) :
    ProjectionRow.Args 16384 where
  x r k := x0 (ix2 r k)
  shift k := x1 (ix2 0 k)
  scale k := x2 (ix2 0 k)
  w k c := x3 (ix2 k c)
  qGain c := x4 (ix1 (place c))
  kGain c := x5 (ix1 (place c))

/-- An array of 16384 rows from their entries. -/
def byRow (f : Fin 16384 → Fin 512 → EReal) : S16384x512.Idx → EReal := fun j => f (j 0) (j 1)

/-! A block's row is the array's. -/

section Blocks
variable (a : ProjectionRow.Args 16384) (t : Fin 32) (r d : Fin 512)

theorem block_mixer : (a.block t).mixer r d = a.mixer (rowOf t r) d := rfl

theorem block_query : (a.block t).query r d = a.query (rowOf t r) d := rfl

theorem block_key : (a.block t).key r d = a.key (rowOf t r) d := rfl

theorem block_value : (a.block t).value r d = a.value (rowOf t r) d := rfl

end Blocks

variable (m : (ℓ : Loc nD τ sig) → Buf (Elt Ideal) ℓ)

/-- The rows and weights at the start. -/
abbrev args (c : Dev nD) : ProjectionRow.Args 16384 :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## What the host hands over -/

/-- The weights, whose cast keeps every number. -/
theorem V_weights (c : Dev nD) : V m c main_v9 = m ((c : Thread nD τ).loc main_arg3) := by
  after_reads_simp
  rfl

/-- The gains, once for every head. -/
theorem V_gains (c : Dev nD) (k : Fin 512) : V m c main_v13 (ix2 0 k) = m ((c : Thread nD τ).loc main_arg4) (ix1 (place k))
    ∧ V m c main_v17 (ix2 0 k) = m ((c : Thread nD τ).loc main_arg5) (ix1 (place k)) := by
  refine ⟨?_, ?_⟩ <;> after_reads_simp <;> pointwise <;> rfl

/-! ## What a point reads -/

/-- A read whose index is a block's is its 512 rows. -/
theorem rows_of {K : ℕ} {α : Type} (x : (⟨2, ![16384, K]⟩ : Shape).Idx → α) (t : Fin 32)
    (f : (⟨2, ![512, K]⟩ : Shape).Idx → (⟨2, ![16384, K]⟩ : Shape).Idx)
    (h : ∀ j a, (f j a).val = ![t.val, 0] a * ![512, K] a + (j a).val) : (fun j => x (f j)) = fun j => x (ix2 (rowOf t (j 0)) (j 1)) := by
  funext j
  refine congrArg x (funext fun a => Fin.ext ((h j a).trans ?_))
  match a with
  | ⟨0, _⟩ => rfl
  | ⟨1, _⟩ => exact (congrArg (· + _) (Nat.zero_mul _)).trans (Nat.zero_add _)

theorem idx_in : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] := by decide +kernel

theorem idx_out : ∀ t : Fin grid0.N, win0_7.index t = ![t.val, 0] ∧ win0_8.index t = ![t.val, 0] ∧ win0_9.index t = ![t.val, 0]
    ∧ win0_10.index t = ![t.val, 0] := by decide +kernel

theorem iblk_rows (c : Dev nD) (t : Fin cfg0.N) : iblk m c 0 t = fun j => V m c main_arg0 (ix2 (rowOf t (j 0)) (j 1)) := by
  refine rows_of (V m c main_arg0) t ((cfg0.win 0).blk t).view.emb fun j a => ?_
  blk_simp [iblk, (idx_in t).1]

theorem iblk_all (c : Dev nD) (t : Fin cfg0.N) :
    iblk m c 1 t = V m c main_arg1 ∧ iblk m c 2 t = V m c main_arg2 ∧ iblk m c 3 t = V m c main_v9 ∧ iblk m c 4 t = V m c main_v8
    ∧ iblk m c 5 t = V m c main_v13 ∧ iblk m c 6 t = V m c main_v17 := by
  obtain ⟨e0, e1, e2, e3, e4, e5, e6⟩ := idx_in t
  refine ⟨?_, ?_, ?_, ?_, ?_, ?_⟩
  · exact MixingArray.all_of (V m c main_arg1) ((cfg0.win 1).blk t).view.emb fun j a => by blk_simp [iblk, e1]
  · exact MixingArray.all_of (V m c main_arg2) ((cfg0.win 2).blk t).view.emb fun j a => by blk_simp [iblk, e2]
  · exact MixingArray.all_of (V m c main_v9) ((cfg0.win 3).blk t).view.emb fun j a => by blk_simp [iblk, e3]
  · exact MixingArray.all_of (V m c main_v8) ((cfg0.win 4).blk t).view.emb fun j a => by blk_simp [iblk, e4]
  · exact MixingArray.all_of (V m c main_v13) ((cfg0.win 5).blk t).view.emb fun j a => by blk_simp [iblk, e5]
  · exact MixingArray.all_of (V m c main_v17) ((cfg0.win 6).blk t).view.emb fun j a => by blk_simp [iblk, e6]

/-- So its rows and weights are its block of those at the start. -/
theorem blocks_eq (c : Dev nD) (t : Fin cfg0.N) :
    blocks (iblk m c 0 t) (iblk m c 1 t) (iblk m c 2 t) (iblk m c 3 t) (iblk m c 5 t) (iblk m c 6 t) = (args m c).block t := by
  obtain ⟨b1, b2, b3, b4, b5, b6⟩ := iblk_all m c t
  rw [iblk_rows m c t, b1, b2, b3, b5, b6, V_weights m c, V_main_arg0, V_main_arg1, V_main_arg2]
  refine Eq.trans ?_ (congrArg₂ (fun q k => ({ (args m c).block t with qGain := q, kGain := k } : ProjectionRow.Args 512))
    (funext fun k => (V_gains m c k).1) (funext fun k => (V_gains m c k).2))
  rfl

theorem table_eq (c : Dev nD) (t : Fin cfg0.N) (k j : Fin 512) : iblk m c 4 t (ix2 k j) = same k j := by
  rw [(iblk_all m c t).2.2.2.1]
  exact (congrFun (ProjectionTable.V_table m c) (ix2 k j)).trans (ProjectionTable.table_apply k j)

/-! ## What a point writes -/

variable (c : Dev nD) (t : Fin cfg0.N)

theorem mixer_at (r d : Fin 512) :
    out0_7 (iblk m c 0 t) (iblk m c 1 t) (iblk m c 2 t) (iblk m c 3 t) (iblk m c 4 t) (iblk m c 5 t) (iblk m c 6 t) (ix2 r d)
      = (args m c).mixer (rowOf t r) d :=
  (out7_apply _ _ _ _ _ _ _ _ _).trans ((congrArg (fun a : ProjectionRow.Args 512 => a.mixer r d) (blocks_eq m c t)).trans (block_mixer _ t r d))

theorem query_at (r d : Fin 512) :
    out0_8 (iblk m c 0 t) (iblk m c 1 t) (iblk m c 2 t) (iblk m c 3 t) (iblk m c 4 t) (iblk m c 5 t) (iblk m c 6 t) (ix2 r d)
      = (args m c).query (rowOf t r) d :=
  (out8_apply _ _ _ _ _ _ _ (table_eq m c t) _ _).trans ((congrArg (fun a : ProjectionRow.Args 512 => a.query r d) (blocks_eq m c t)).trans (block_query _ t r d))

theorem key_at (r d : Fin 512) :
    out0_9 (iblk m c 0 t) (iblk m c 1 t) (iblk m c 2 t) (iblk m c 3 t) (iblk m c 4 t) (iblk m c 5 t) (iblk m c 6 t) (ix2 r d)
      = (args m c).key (rowOf t r) d :=
  (out9_apply _ _ _ _ _ _ _ (table_eq m c t) _ _).trans ((congrArg (fun a : ProjectionRow.Args 512 => a.key r d) (blocks_eq m c t)).trans (block_key _ t r d))

theorem value_at (r d : Fin 512) :
    out0_10 (iblk m c 0 t) (iblk m c 1 t) (iblk m c 2 t) (iblk m c 3 t) (iblk m c 4 t) (iblk m c 5 t) (iblk m c 6 t) (ix2 r d)
      = (args m c).value (rowOf t r) d :=
  (out10_apply _ _ _ _ _ _ _ _ _).trans ((congrArg (fun a : ProjectionRow.Args 512 => a.value r d) (blocks_eq m c t)).trans (block_value _ t r d))

theorem flushed_mixer : (dats m 0 c).flushed 7 t = ((cfg0.win 7).blk t).view.read (Elt Ideal) (byRow (args m c).mixer) := by
  rw [Value.flushed7]
  refine Eq.trans (funext fun j => ?_) (rows_of (byRow (args m c).mixer) t ((cfg0.win 7).blk t).view.emb fun j a => ?_).symm
  · idx_vars j
    exact mixer_at m c t j0 j1
  · blk_simp [(idx_out t).1]

theorem flushed_query : (dats m 0 c).flushed 8 t = ((cfg0.win 8).blk t).view.read (Elt Ideal) (byRow (args m c).query) := by
  rw [Value.flushed8]
  refine Eq.trans (funext fun j => ?_) (rows_of (byRow (args m c).query) t ((cfg0.win 8).blk t).view.emb fun j a => ?_).symm
  · idx_vars j
    exact query_at m c t j0 j1
  · blk_simp [(idx_out t).2.1]

theorem flushed_key : (dats m 0 c).flushed 9 t = ((cfg0.win 9).blk t).view.read (Elt Ideal) (byRow (args m c).key) := by
  rw [Value.flushed9]
  refine Eq.trans (funext fun j => ?_) (rows_of (byRow (args m c).key) t ((cfg0.win 9).blk t).view.emb fun j a => ?_).symm
  · idx_vars j
    exact key_at m c t j0 j1
  · blk_simp [(idx_out t).2.2.1]

theorem flushed_value : (dats m 0 c).flushed 10 t = ((cfg0.win 10).blk t).view.read (Elt Ideal) (byRow (args m c).value) := by
  rw [Value.flushed10]
  refine Eq.trans (funext fun j => ?_) (rows_of (byRow (args m c).value) t ((cfg0.win 10).blk t).view.emb fun j a => ?_).symm
  · idx_vars j
    exact value_at m c t j0 j1
  · blk_simp [(idx_out t).2.2.2]

/-! ## The arrays after the last point -/

/-- The point whose block holds row `r`. -/
theorem point_of (r : ℕ) (h : r < 16384) : ∃ t : Fin grid0.N, t.val = r / 512 :=
  ⟨⟨r / 512, by have hN : grid0.N = 32 := N_0; omega⟩, rfl⟩

theorem arr_mixer : (dats m 0 c).arrAt 7 cfg0.N = byRow (args m c).mixer :=
  (dats m 0 c).arrAt_eq_of_cover 7 _ (fun t _ => flushed_mixer m c t) fun i => by
    have h0 : (i 0).val < 16384 := (i 0).isLt
    have h1 : (i 1).val < 512 := (i 1).isLt
    obtain ⟨t, ht⟩ := point_of _ h0
    refine ⟨t, flush0_7 _, ?_⟩
    mem_blk [fun t : Fin grid0.N => (idx_out t).1]
    omega

theorem arr_query : (dats m 0 c).arrAt 8 cfg0.N = byRow (args m c).query :=
  (dats m 0 c).arrAt_eq_of_cover 8 _ (fun t _ => flushed_query m c t) fun i => by
    have h0 : (i 0).val < 16384 := (i 0).isLt
    have h1 : (i 1).val < 512 := (i 1).isLt
    obtain ⟨t, ht⟩ := point_of _ h0
    refine ⟨t, flush0_8 _, ?_⟩
    mem_blk [fun t : Fin grid0.N => (idx_out t).2.1]
    omega

theorem arr_key : (dats m 0 c).arrAt 9 cfg0.N = byRow (args m c).key :=
  (dats m 0 c).arrAt_eq_of_cover 9 _ (fun t _ => flushed_key m c t) fun i => by
    have h0 : (i 0).val < 16384 := (i 0).isLt
    have h1 : (i 1).val < 512 := (i 1).isLt
    obtain ⟨t, ht⟩ := point_of _ h0
    refine ⟨t, flush0_9 _, ?_⟩
    mem_blk [fun t : Fin grid0.N => (idx_out t).2.2.1]
    omega

theorem arr_value : (dats m 0 c).arrAt 10 cfg0.N = byRow (args m c).value :=
  (dats m 0 c).arrAt_eq_of_cover 10 _ (fun t _ => flushed_value m c t) fun i => by
    have h0 : (i 0).val < 16384 := (i 0).isLt
    have h1 : (i 1).val < 512 := (i 1).isLt
    obtain ⟨t, ht⟩ := point_of _ h0
    refine ⟨t, flush0_10 _, ?_⟩
    mem_blk [fun t : Fin grid0.N => (idx_out t).2.2.2]
    omega

end Cert.ProjectionArray

end
-- ==== Proof.ProjectionReference.lean ====
/- The input projection's reference, read at an entry: what the arguments' rows come to. -/
module

public import proofs.«01_k».proof.Proof.ProjectionArray
public import proofs.«01_k».proof.Proof.MixingReference
public import proofs.«01_k».proof.Proof.Gen.ProjectionReferenceIdeal.Read

@[expose] public section

set_option maxRecDepth 16384

noncomputable section

namespace Cert.ProjectionReference

open Idealize.ShloMosaic Idealize.ShloMosaic.TcCoe Cert.ProjectionReferenceIdeal Cert.ProjectionReferenceIdeal.Read
open Cert.ProjectionRow Cert.ProjectionRow.Args Cert.ProjectionArray Cert.MixingReference
open Cert.MixingRow (normed)
open scoped BigOperators

/-- Two indices of rank three with the same coordinates. -/
theorem ix3_eq {a b c : ℕ} {i : (⟨3, ![a, b, c]⟩ : Shape).Idx} {p : Fin a} {q : Fin b} {r : Fin c} (h0 : (i 0).val = p.val)
    (h1 : (i 1).val = q.val) (h2 : (i 2).val = r.val) : i = ix3 p q r :=
  funext fun n => Fin.ext (by match n with | ⟨0, _⟩ => exact h0 | ⟨1, _⟩ => exact h1 | ⟨2, _⟩ => exact h2)

/-- The head of column `c`. -/
def head (c : Fin 512) : Fin 8 := ⟨c.val / 64, by omega⟩

variable (x0 : FVec Ideal S16384x1024 .f32) (x1 x2 : FVec Ideal S1x1024 .f32) (x3 : FVec Ideal S1024x2048 .f32) (x4 x5 : FVec Ideal S64 .f32)

theorem normed_apply (r : Fin 16384) (k : Fin 1024) :
    val_main_v15 (F := Ideal) x0 x1 x2 (ix2 r k) = normed (fun k => x0 (ix2 r k)) (fun k => x2 (ix2 0 k)) (fun k => x1 (ix2 0 k)) k := by
  have hsum : val_main_v1 (F := Ideal) x0 (ix1 r) = ∑ e, x0 (ix2 r e) * x0 (ix2 r e) := by
    rw [val_main_v1_apply, val_main_cst_apply]
    refine (congrArg₂ (· + ·) Ideal.ofBits_zero_f32 rfl).trans ((zero_add _).trans (Finset.sum_congr rfl fun e _ => ?_))
    rw [val_main_v0_apply]
    have h := congrArg x0 (ix2_eq (i := idx_main_v1 (ix1 r) e) (p := r) (q := e) rfl rfl)
    exact congrArg₂ (fun a b : EReal => a * b) h h
  rw [val_main_v15_apply, val_main_v13_apply, val_main_v9_apply, val_main_v8_apply, val_main_v7_apply, val_main_v6_apply, val_main_v4_apply,
    val_main_v2_apply, val_main_v3_apply, val_main_cst_0_apply, val_main_v5_apply, val_main_cst_1_apply, val_main_v12_apply, val_main_v11_apply,
    val_main_v10_apply, val_main_cst_2_apply, val_main_v14_apply]
  rw [show idx_main_v2 (idx_main_v8 (ix2 r k)) = ix1 r from funext fun n => by match n with | ⟨0, _⟩ => rfl, hsum,
    show idx_main_v12 (ix2 r k) = ix2 0 k from ix2_eq rfl rfl, show idx_main_v14 (ix2 r k) = ix2 0 k from ix2_eq rfl rfl]
  rfl

theorem proj_apply (r : Fin 16384) (c : Fin 2048) : val_main_v16 (F := Ideal) x0 x1 x2 x3 (ix2 r c) = (argsOf x0 x1 x2 x3 x4 x5).proj r c := by
  rw [val_main_v16_apply]
  refine Finset.sum_congr rfl fun k _ => congrArg₂ (· * ·) ?_ (congrArg x3 (ix2_eq rfl rfl))
  exact (congrArg (val_main_v15 (F := Ideal) x0 x1 x2) (ix2_eq rfl rfl)).trans (normed_apply x0 x1 x2 r k)

theorem mixer_apply (r : Fin 16384) (c : Fin 512) : val_main_v52 (F := Ideal) x0 x1 x2 x3 (ix2 r c) = (argsOf x0 x1 x2 x3 x4 x5).mixer r c := by
  rw [val_main_v52_apply, val_main_v19_apply]
  refine (congrArg (val_main_v16 (F := Ideal) x0 x1 x2 x3) (ix2_eq (p := r) (q := ⟨c.val, by omega⟩) ?_ ?_)).trans (proj_apply x0 x1 x2 x3 x4 x5 r _)
  · rfl
  · rfl

/-! A head's queries, keys and values are 64 columns of the product, behind the mixer's 512. -/

theorem queries_apply (r : Fin 16384) (h : Fin 8) (k : Fin 64) :
    val_main_v21 (F := Ideal) x0 x1 x2 x3 (ix3 r h k) = (argsOf x0 x1 x2 x3 x4 x5).proj r ⟨512 + (h.val * 64 + k.val), by omega⟩ := by
  rw [val_main_v21_apply, val_main_v20_apply, val_main_v18_apply, val_main_v17_apply]
  refine (congrArg (val_main_v16 (F := Ideal) x0 x1 x2 x3) (ix2_eq ?_ ?_)).trans (proj_apply x0 x1 x2 x3 x4 x5 r _)
  · show _ = r.val
    simp
    omega
  · simp
    omega

theorem keys_apply (r : Fin 16384) (h : Fin 8) (k : Fin 64) :
    val_main_v36 (F := Ideal) x0 x1 x2 x3 (ix3 r h k) = (argsOf x0 x1 x2 x3 x4 x5).proj r ⟨1024 + (h.val * 64 + k.val), by omega⟩ := by
  rw [val_main_v36_apply, val_main_v35_apply, val_main_v18_apply, val_main_v17_apply]
  refine (congrArg (val_main_v16 (F := Ideal) x0 x1 x2 x3) (ix2_eq ?_ ?_)).trans (proj_apply x0 x1 x2 x3 x4 x5 r _)
  · show _ = r.val
    simp
    omega
  · simp
    omega

theorem values_apply (r : Fin 16384) (h : Fin 8) (k : Fin 64) :
    val_main_v51 (F := Ideal) x0 x1 x2 x3 (ix3 r h k) = (argsOf x0 x1 x2 x3 x4 x5).proj r ⟨1536 + (h.val * 64 + k.val), by omega⟩ := by
  rw [val_main_v51_apply, val_main_v50_apply, val_main_v18_apply, val_main_v17_apply]
  refine (congrArg (val_main_v16 (F := Ideal) x0 x1 x2 x3) (ix2_eq ?_ ?_)).trans (proj_apply x0 x1 x2 x3 x4 x5 r _)
  · show _ = r.val
    simp
    omega
  · simp
    omega

/-- Column `c` is at its place in its head. -/
theorem in_head (o : ℕ) (c : Fin 512) : o + ((head c).val * 64 + (place c).val) = o + c.val := by
  show o + (c.val / 64 * 64 + c.val % 64) = o + c.val
  omega

/-- A row's column, by its head and its place there. -/
theorem split_eq {i : S16384x8x64.Idx} {r : Fin 16384} {c : Fin 512} (h0 : (i 0).val = (r.val * 512 + c.val) / 512)
    (h1 : (i 1).val = (r.val * 512 + c.val) / 64 % 8) (h2 : (i 2).val = (r.val * 512 + c.val) % 64) : i = ix3 r (head c) (place c) :=
  ix3_eq (h0.trans (by omega)) (h1.trans (by show _ = c.val / 64; omega)) (h2.trans (by show _ = c.val % 64; omega))

theorem value_apply (r : Fin 16384) (c : Fin 512) : val_main_v58 (F := Ideal) x0 x1 x2 x3 (ix2 r c) = (argsOf x0 x1 x2 x3 x4 x5).value r c := by
  rw [val_main_v58_apply, val_main_v57_apply, split_eq (i := idx_main_v57 (ix2 r c)) (r := r) (c := c) rfl rfl rfl]
  exact (values_apply x0 x1 x2 x3 x4 x5 r (head c) (place c)).trans (congrArg _ (Fin.ext (in_head 1536 c)))

/-! The queries and keys normalised, head by head. -/

theorem query_sum (r : Fin 16384) (h : Fin 8) : val_main_v23 (F := Ideal) x0 x1 x2 x3 (ix2 r h)
    = ∑ k : Fin 64, val_main_v21 (F := Ideal) x0 x1 x2 x3 (ix3 r h k) * val_main_v21 (F := Ideal) x0 x1 x2 x3 (ix3 r h k) := by
  rw [val_main_v23_apply, val_main_cst_3_apply]
  refine (congrArg₂ (· + ·) Ideal.ofBits_zero_f32 rfl).trans ((zero_add _).trans (Finset.sum_congr rfl fun k _ => ?_))
  rw [val_main_v22_apply, ix3_eq (i := idx_main_v23 (ix2 r h) k) (p := r) (q := h) (r := k) rfl rfl rfl]
  rfl

theorem query_apply (r : Fin 16384) (c : Fin 512) : val_main_v54 (F := Ideal) x0 x1 x2 x3 x4 (ix2 r c) = (argsOf x0 x1 x2 x3 x4 x5).query r c := by
  have hz : val_main_v21 (F := Ideal) x0 x1 x2 x3 (ix3 r (head c) (place c)) = (argsOf x0 x1 x2 x3 x4 x5).proj r ⟨512 + c.val, by omega⟩ :=
    (queries_apply x0 x1 x2 x3 x4 x5 r (head c) (place c)).trans (congrArg _ (Fin.ext (in_head 512 c)))
  rw [val_main_v54_apply, val_main_v53_apply, split_eq (i := idx_main_v53 (ix2 r c)) (r := r) (c := c) rfl rfl rfl, val_main_v34_apply, val_main_v31_apply, val_main_v30_apply,
    val_main_v29_apply, val_main_v28_apply, val_main_v26_apply, val_main_v24_apply, val_main_v25_apply, val_main_cst_4_apply, val_main_v27_apply, val_main_cst_5_apply,
    val_main_v33_apply, val_main_v32_apply, hz]
  rw [show idx_main_v24 (idx_main_v30 (ix3 r (head c) (place c))) = ix2 r (head c) from ix2_eq rfl rfl, query_sum,
    show idx_main_v32 (idx_main_v33 (ix3 r (head c) (place c))) = ix1 (place c) from funext fun n => by match n with | ⟨0, _⟩ => rfl]
  have hs : (∑ k : Fin 64, val_main_v21 (F := Ideal) x0 x1 x2 x3 (ix3 r (head c) k) * val_main_v21 (F := Ideal) x0 x1 x2 x3 (ix3 r (head c) k))
      = ∑ k : Fin 64, (argsOf x0 x1 x2 x3 x4 x5).proj r ⟨512 + (inHead c k).val, by omega⟩ * (argsOf x0 x1 x2 x3 x4 x5).proj r ⟨512 + (inHead c k).val, by omega⟩ :=
    Finset.sum_congr rfl fun k _ => by rw [queries_apply x0 x1 x2 x3 x4 x5]; rfl
  rw [hs]
  rfl

theorem key_sum (r : Fin 16384) (h : Fin 8) : val_main_v38 (F := Ideal) x0 x1 x2 x3 (ix2 r h)
    = ∑ k : Fin 64, val_main_v36 (F := Ideal) x0 x1 x2 x3 (ix3 r h k) * val_main_v36 (F := Ideal) x0 x1 x2 x3 (ix3 r h k) := by
  rw [val_main_v38_apply, val_main_cst_6_apply]
  refine (congrArg₂ (· + ·) Ideal.ofBits_zero_f32 rfl).trans ((zero_add _).trans (Finset.sum_congr rfl fun k _ => ?_))
  rw [val_main_v37_apply, ix3_eq (i := idx_main_v38 (ix2 r h) k) (p := r) (q := h) (r := k) rfl rfl rfl]
  rfl

theorem key_apply (r : Fin 16384) (c : Fin 512) : val_main_v56 (F := Ideal) x0 x1 x2 x3 x5 (ix2 r c) = (argsOf x0 x1 x2 x3 x4 x5).key r c := by
  have hz : val_main_v36 (F := Ideal) x0 x1 x2 x3 (ix3 r (head c) (place c)) = (argsOf x0 x1 x2 x3 x4 x5).proj r ⟨1024 + c.val, by omega⟩ :=
    (keys_apply x0 x1 x2 x3 x4 x5 r (head c) (place c)).trans (congrArg _ (Fin.ext (in_head 1024 c)))
  rw [val_main_v56_apply, val_main_v55_apply, split_eq (i := idx_main_v55 (ix2 r c)) (r := r) (c := c) rfl rfl rfl, val_main_v49_apply, val_main_v46_apply, val_main_v45_apply,
    val_main_v44_apply, val_main_v43_apply, val_main_v41_apply, val_main_v39_apply, val_main_v40_apply, val_main_cst_7_apply, val_main_v42_apply, val_main_cst_8_apply,
    val_main_v48_apply, val_main_v47_apply, hz]
  rw [show idx_main_v39 (idx_main_v45 (ix3 r (head c) (place c))) = ix2 r (head c) from ix2_eq rfl rfl, key_sum,
    show idx_main_v47 (idx_main_v48 (ix3 r (head c) (place c))) = ix1 (place c) from funext fun n => by match n with | ⟨0, _⟩ => rfl]
  have hs : (∑ k : Fin 64, val_main_v36 (F := Ideal) x0 x1 x2 x3 (ix3 r (head c) k) * val_main_v36 (F := Ideal) x0 x1 x2 x3 (ix3 r (head c) k))
      = ∑ k : Fin 64, (argsOf x0 x1 x2 x3 x4 x5).proj r ⟨1024 + (inHead c k).val, by omega⟩ * (argsOf x0 x1 x2 x3 x4 x5).proj r ⟨1024 + (inHead c k).val, by omega⟩ :=
    Finset.sum_congr rfl fun k _ => by rw [keys_apply x0 x1 x2 x3 x4 x5]; rfl
  rw [hs]
  rfl

end Cert.ProjectionReference

end
-- ==== Proof.lean ====
/- The kernels of the neighbourhood attention, the experts, the mixing and the input projection, each with its reference: both leave
   the same arrays. -/

module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_scores_finite
public import proofs.«01_k».proof.Proof.Array
public import proofs.«01_k».proof.Proof.Finite
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_tables_in_range
public import proofs.«01_k».proof.Proof.ExpertsSame
public import proofs.«01_k».proof.Proof.ExpertsArray
public import proofs.«01_k».proof.Proof.ExpertsReference
public import proofs.«01_k».proof.Proof.MixingReference
public import proofs.«01_k».proof.Proof.ProjectionReference
public import proofs.«01_k».proof.Proof.Gen.Mixing
public import proofs.«01_k».proof.Proof.Gen.Mixing.Skeleton
public import proofs.«01_k».proof.Proof.Gen.Mixing.Launch
public import proofs.«01_k».proof.Proof.Gen.Mixing.Points
public import proofs.«01_k».proof.Proof.Gen.Mixing.Frame
public import proofs.«01_k».proof.Proof.Gen.MixingIdeal
public import proofs.«01_k».proof.Proof.Gen.MixingIdeal.Skeleton
public import proofs.«01_k».proof.Proof.Gen.MixingIdeal.Launch
public import proofs.«01_k».proof.Proof.Gen.MixingIdeal.Points
public import proofs.«01_k».proof.Proof.Gen.MixingIdeal.Frame
public import proofs.«01_k».proof.Proof.Gen.MixingIdeal.Value
public import proofs.«01_k».proof.Proof.Gen.MixingReferenceIdeal
public import proofs.«01_k».proof.Proof.Gen.MixingReferenceIdeal.Run
public import proofs.«01_k».proof.Proof.Gen.MixingReferenceIdeal.Read
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionReferenceIdeal.Read
public import Idealize.ShloMosaic.Adequacy
public import Idealize.ShloMosaic.Init

@[expose] public section

noncomputable section

namespace Cert.Proof

open Idealize.ShloMosaic Idealize.ShloMosaic.TcCoe Idealize.SL.Sem Cert.Kernel

/-- The reference's result is the array the kernel leaves. -/
theorem reference_eq (q k v : FVec Ideal KernelIdeal.S8x16384x64 .bf16) (kc vc : FVec Ideal KernelIdeal.S8x256x64 .bf16)
    (b : FVec Ideal KernelIdeal.S8x15x31 .f32) (hq : ∀ i, Finite.Real' (q i)) (hk : ∀ i, Finite.Real' (k i)) (hc : ∀ i, Finite.Real' (kc i))
    (hb : ∀ i, Finite.Real' (b i)) : ReferenceIdeal.Read.val_main_v107 (F := Ideal) q k v kc vc b = Cert.Array.result q k v kc vc b := by
  funext j
  idx_vars j
  have e : j1 = Attention.at' ⟨j1.val / 64, by omega⟩ ⟨j1.val % 64, Nat.mod_lt _ (by decide)⟩ :=
    Fin.ext (by show j1.val = j1.val / 64 * 64 + j1.val % 64; omega)
  refine (congrArg (fun z => ReferenceIdeal.Read.val_main_v107 (F := Ideal) q k v kc vc b (ix3 j0 z j2)) e).trans ?_
  exact (Scores.result_of q k v kc vc b j0 _ _ j2).trans (Finite.divideFirst_attention q k v kc vc b hq hk hc hb j0 _ _ j2)

theorem algebraic : algebraic_KernelIdeal_ReferenceIdeal_pre_scores_finite (hKernelIdeal := KernelIdeal.Gen.facts)
    (hReferenceIdeal := ReferenceIdeal.Gen.facts) (hPre_scores_finite := Pre_scores_finite.Gen.facts) := by
  intro m ρ m' ρ' hpre hag
  refine ⟨fun c => Cert.Array.array m c, ?_, ?_⟩
  · exact (θ_run _ _ _).mono (fun r h c => ⟨(h c).1.trans (Cert.Array.arrAt_eq m c), (h c).2⟩) (KernelIdeal.Value.run_blocks m ρ)
  · refine (θ_run _ _ _).mono (fun r h c => ⟨(h c).1.trans ?_, (h c).2⟩) (ReferenceIdeal.Value.run m' ρ')
    obtain ⟨hq, hk, hc, hb⟩ := Finite.of_pre _ _ _ _ _ _ (hpre c)
    obtain ⟨e0, e1, e2, e3, e4, e5⟩ := hag c
    rw [ReferenceIdeal.Read.val_main_v107_eq, e0, e1, e2, e3, e4, e5]
    exact reference_eq _ _ _ _ _ _ hq hk hc hb

/-- The reference is a program of the host alone: it leaves its arguments as they are and has no semaphore. -/
theorem frame_reference : quiescent_ReferenceIdeal (hReferenceIdeal := ReferenceIdeal.Gen.facts) := fun m ρ _ =>
  (θ_run ReferenceIdeal.defs _ _).mono (fun r h => ⟨fun c => (h c).2, sem_eq_zero_of_no_sems (by decide) r.2⟩) (ReferenceIdeal.Value.run m ρ)

/-- The experts' kernel ends, at tables in range, and leaves its arguments as they are. -/
theorem frame_experts : quiescent_ExpertsIdeal (hExpertsIdeal := ExpertsIdeal.Gen.facts) (hPre_tables_in_range := Pre_tables_in_range.Gen.facts) :=
  fun m ρ h => ExpertsTables.frame (F := Ideal) m ρ (fun c => ExpertsTables.of_pre _ _ _ _ _ _ (h c))

/-- So does their reference, at any. -/
theorem frame_experts_reference : quiescent_ExpertsReferenceIdeal (hExpertsReferenceIdeal := ExpertsReferenceIdeal.Gen.facts) := fun m ρ _ =>
  (θ_run ExpertsReferenceIdeal.defs _ _).mono (fun r h => ⟨fun c => (h c).2, sem_eq_zero_of_no_sems (by decide) r.2⟩)
    (ExpertsReferenceIdeal.Value.run m ρ)

/-- The experts' kernel and their reference leave one array. -/
theorem algebraic_experts : algebraic_ExpertsIdeal_ExpertsReferenceIdeal (hExpertsIdeal := ExpertsIdeal.Gen.facts)
    (hExpertsReferenceIdeal := ExpertsReferenceIdeal.Gen.facts) (hPre_tables_in_range := Pre_tables_in_range.Gen.facts) := by
  intro m ρ m' ρ' hpre hag
  have h := fun c => ExpertsTables.of_pre _ _ _ _ _ _ (hpre c)
  have hm : ∀ (c : Dev ExpertsIdeal.nD) (j : Fin 2), m ((c : Thread ExpertsIdeal.nD ExpertsIdeal.τ).loc (ExpertsIdeal.pre0.ref j))
      = (ExpertsTables.tables m h).1 j := fun c j => by
    rw [Subsingleton.elim c 0]; rfl
  refine ⟨fun c => ExpertsArray.array (ExpertsTables.tables m h) m c, ?_, ?_⟩
  · exact (θ_run _ _ _).mono (fun r e c => ⟨((e.1 c).1 (4 : Fin 5)).trans (ExpertsArray.arrAt_eq _ (h 0) m ρ c),
      ExpertsRun.arguments (ExpertsTables.tables m h) m ρ hm r e.1 c⟩) (ExpertsRun.run (ExpertsTables.tables m h) m ρ hm)
  · refine (θ_run _ _ _).mono (fun r e c => ⟨(e c).1.trans ?_, (e c).2⟩) (ExpertsReferenceIdeal.Value.run m' ρ')
    obtain ⟨e0, e1, e2, e3, e4, e5⟩ := hag c
    rw [ExpertsReferenceIdeal.Read.val_main_v36_eq, e0, e1, e2, e3, e4, e5]
    refine (ExpertsReference.result_eq _ _ _ _ _ _ (h c)).trans ?_
    rw [Subsingleton.elim c 0]
    rfl

/-- The mixing's reference ends and leaves its arguments as they are. -/
theorem frame_mixing_reference : quiescent_MixingReferenceIdeal (hMixingReferenceIdeal := MixingReferenceIdeal.Gen.facts) := fun m ρ _ =>
  (θ_run MixingReferenceIdeal.defs _ _).mono (fun r h => ⟨fun c => (h c).2.2.2.2, sem_eq_zero_of_no_sems (by decide) r.2⟩)
    (MixingReferenceIdeal.Value.run m ρ)

/-- The mixing's kernel and its reference leave the same four arrays. -/
theorem algebraic_mixing : algebraic_MixingIdeal_MixingReferenceIdeal (hMixingIdeal := MixingIdeal.Gen.facts)
    (hMixingReferenceIdeal := MixingReferenceIdeal.Gen.facts) := by
  intro m ρ m' ρ' hpre hag
  refine ⟨fun c => MixingArray.byRow (MixingArray.args m c).hid, fun c => MixingArray.byRow (MixingArray.args m c).nrm,
    fun c => MixingArray.byColumn (MixingArray.args m c).logit, fun c => MixingArray.byRow (MixingArray.args m c).shared, ?_, ?_⟩
  · exact (θ_run _ _ _).mono (fun r h c => ⟨(h c).1.trans (MixingArray.arr_hid m c), (h c).2.1.trans (MixingArray.arr_nrm m c),
      (h c).2.2.1.trans (MixingArray.arr_logit m c), (h c).2.2.2.1.trans (MixingArray.arr_shared m c), (h c).2.2.2.2⟩)
      (MixingIdeal.Value.run_blocks m ρ)
  · refine (θ_run _ _ _).mono (fun r h c => ?_) (MixingReferenceIdeal.Value.run m' ρ')
    obtain ⟨e0, e1, e2, e3, e4, e5, e6, e7, e8, e9, e10, e11, e12⟩ := hag c
    refine ⟨(h c).1.trans ?_, (h c).2.1.trans ?_, (h c).2.2.1.trans ?_, (h c).2.2.2.1.trans ?_, (h c).2.2.2.2⟩
    · rw [MixingReferenceIdeal.Read.val_main_v29_eq, e0, e1, e2, e3, e4, e5, e6]
      exact funext fun j => by idx_vars j; exact MixingReference.hid_apply _ _ _ _ _ _ _ _ _ _ _ _ _ j0 j1
    · rw [MixingReferenceIdeal.Read.val_main_v45_eq, e0, e1, e2, e3, e4, e5, e6, e7, e8]
      exact funext fun j => by idx_vars j; exact MixingReference.nrm_apply _ _ _ _ _ _ _ _ _ _ _ _ _ j0 j1
    · rw [MixingReferenceIdeal.Read.val_main_v52_eq, e0, e1, e2, e3, e4, e5, e6, e7, e8, e9]
      exact funext fun j => by idx_vars j; exact MixingReference.logit_apply _ _ _ _ _ _ _ _ _ _ _ _ _ j0 j1
    · rw [MixingReferenceIdeal.Read.val_main_v53_eq, e0, e1, e2, e3, e4, e5, e6, e7, e8, e10, e11, e12]
      exact funext fun j => by idx_vars j; exact MixingReference.shared_apply _ _ _ _ _ _ _ _ _ _ _ _ _ j0 j1

/-! ## The input projection -/

theorem frame_projection_reference : quiescent_ProjectionReferenceIdeal (hProjectionReferenceIdeal := ProjectionReferenceIdeal.Gen.facts) := fun m ρ _ =>
  (θ_run ProjectionReferenceIdeal.defs _ _).mono (fun r h => ⟨fun c => (h c).2.2.2.2, sem_eq_zero_of_no_sems (by decide) r.2⟩)
    (ProjectionReferenceIdeal.Value.run m ρ)

/-- The input projection's kernel and its reference leave the same four arrays. -/
theorem algebraic_projection : algebraic_ProjectionIdeal_ProjectionReferenceIdeal (hProjectionIdeal := ProjectionIdeal.Gen.facts)
    (hProjectionReferenceIdeal := ProjectionReferenceIdeal.Gen.facts) := by
  intro m ρ m' ρ' hpre hag
  refine ⟨fun c => ProjectionArray.byRow (ProjectionArray.args m c).mixer, fun c => ProjectionArray.byRow (ProjectionArray.args m c).query,
    fun c => ProjectionArray.byRow (ProjectionArray.args m c).key, fun c => ProjectionArray.byRow (ProjectionArray.args m c).value, ?_, ?_⟩
  · exact (θ_run _ _ _).mono (fun r h c => ⟨(h c).1.trans (ProjectionArray.arr_mixer m c), (h c).2.1.trans (ProjectionArray.arr_query m c),
      (h c).2.2.1.trans (ProjectionArray.arr_key m c), (h c).2.2.2.1.trans (ProjectionArray.arr_value m c), (h c).2.2.2.2⟩)
      (ProjectionIdeal.Value.run_blocks m ρ)
  · refine (θ_run _ _ _).mono (fun r h c => ?_) (ProjectionReferenceIdeal.Value.run m' ρ')
    obtain ⟨e0, e1, e2, e3, e4, e5⟩ := hag c
    refine ⟨(h c).1.trans ?_, (h c).2.1.trans ?_, (h c).2.2.1.trans ?_, (h c).2.2.2.1.trans ?_, (h c).2.2.2.2⟩
    · rw [ProjectionReferenceIdeal.Read.val_main_v52_eq, e0, e1, e2, e3]
      exact funext fun j => by idx_vars j; exact ProjectionReference.mixer_apply _ _ _ _ _ _ j0 j1
    · rw [ProjectionReferenceIdeal.Read.val_main_v54_eq, e0, e1, e2, e3, e4]
      exact funext fun j => by idx_vars j; exact ProjectionReference.query_apply _ _ _ _ _ _ j0 j1
    · rw [ProjectionReferenceIdeal.Read.val_main_v56_eq, e0, e1, e2, e3, e5]
      exact funext fun j => by idx_vars j; exact ProjectionReference.key_apply _ _ _ _ _ _ j0 j1
    · rw [ProjectionReferenceIdeal.Read.val_main_v58_eq, e0, e1, e2, e3]
      exact funext fun j => by idx_vars j; exact ProjectionReference.value_apply _ _ _ _ _ _ j0 j1

/-- All claims together. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Mixing.Gen.facts, Cert.MixingIdeal.Gen.facts, Cert.MixingReferenceIdeal.Gen.facts,
    Cert.Projection.Gen.facts, Cert.ProjectionIdeal.Gen.facts, Cert.ProjectionReferenceIdeal.Gen.facts, Cert.Pre_scores_finite.Gen.facts, Cert.Pre_tables_in_range.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    ExpertsSame.frame, frame_experts, frame_experts_reference, fun m ρ _ => frame_experts_reference m ρ trivial,
    fun m ρ _ => Cert.Mixing.Gen.frame m ρ, fun m ρ _ => Cert.MixingIdeal.Gen.frame m ρ, frame_mixing_reference,
    fun m ρ _ => Cert.Projection.Gen.frame m ρ, fun m ρ _ => Cert.ProjectionIdeal.Gen.frame m ρ, frame_projection_reference,
    trivial, algebraic, trivial, algebraic_experts, trivial, algebraic_mixing, trivial,
    algebraic_projection⟩

end Cert.Proof

end
